-- ==== Defs.lean ====
def Pre_Experts [hPre_counts_of_tokens : Cert.Pre_counts_of_tokens.Facts] (m : (ℓ : Loc Cert.Experts.nD Cert.Experts.τ Cert.Experts.sig) → Buf (Elt Bits) ℓ) : Prop :=
  ∀ c : Dev Cert.Experts.nD,
    (Cert.Pre_counts_of_tokens.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_counts_of_tokens : Cert.Pre_counts_of_tokens.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_counts_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsIdeal_routed [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_DenseIdeal (m : (ℓ : Loc Cert.DenseIdeal.nD Cert.DenseIdeal.τ Cert.DenseIdeal.sig) → Buf (Elt Ideal) ℓ) : Prop :=
  True

def Pre_DenseIdeal_routed [hPre_routed : Cert.Pre_routed.Facts] (m : (ℓ : Loc Cert.DenseIdeal.nD Cert.DenseIdeal.τ Cert.DenseIdeal.sig) → Buf (Elt Ideal) ℓ) : Prop :=
  ∀ c : Dev Cert.DenseIdeal.nD,
    (Cert.Pre_routed.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def quiescent_Experts [hExperts : Cert.Experts.Facts] [hPre_counts_of_tokens : Cert.Pre_counts_of_tokens.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_counts_of_tokens : Cert.Pre_counts_of_tokens.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsIdeal_pre_routed [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_routed m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseIdeal_pre_routed [hDenseIdeal : Cert.DenseIdeal.Facts] [hPre_routed : Cert.Pre_routed.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_routed m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17)
      ∧ r.2.mem ((c.tc : Thread Cert.Mixer.nD Cert.Mixer.τ).loc Cert.Mixer.main_arg18) = m ((c.tc : Thread Cert.Mixer.nD Cert.Mixer.τ).loc Cert.Mixer.main_arg18)
      ∧ r.2.mem ((c.tc : Thread Cert.Mixer.nD Cert.Mixer.τ).loc Cert.Mixer.main_arg19) = m ((c.tc : Thread Cert.Mixer.nD Cert.Mixer.τ).loc Cert.Mixer.main_arg19))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19))
      ∧ r.2.sem = fun _ => 0)

def preserves_Experts_ExpertsIdeal : Prop :=
  True

def algebraic_ExpertsIdeal_DenseIdeal_pre_routed [hExpertsIdeal : Cert.ExpertsIdeal.Facts] [hDenseIdeal : Cert.DenseIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.DenseIdeal.nD Cert.DenseIdeal.τ Cert.DenseIdeal.sig) → Buf (Elt Ideal) ℓ) (g' : Dev Cert.DenseIdeal.nD → PrngReg), Pre_ExpertsIdeal_routed m →
    (∀ c : Dev Cert.ExpertsIdeal.nD,
      m' ((c.tc : Thread Cert.DenseIdeal.nD Cert.DenseIdeal.τ).loc Cert.DenseIdeal.main_arg0) = m ((c.tc : Thread Cert.ExpertsIdeal.nD Cert.ExpertsIdeal.τ).loc Cert.ExpertsIdeal.main_arg0)
      ∧ m' ((c.tc : Thread Cert.DenseIdeal.nD Cert.DenseIdeal.τ).loc Cert.DenseIdeal.main_arg1) = m ((c.tc : Thread Cert.ExpertsIdeal.nD Cert.ExpertsIdeal.τ).loc Cert.ExpertsIdeal.main_arg1)
      ∧ m' ((c.tc : Thread Cert.DenseIdeal.nD Cert.DenseIdeal.τ).loc Cert.DenseIdeal.main_arg2) = m ((c.tc : Thread Cert.ExpertsIdeal.nD Cert.ExpertsIdeal.τ).loc Cert.ExpertsIdeal.main_arg2)
      ∧ m' ((c.tc : Thread Cert.DenseIdeal.nD Cert.DenseIdeal.τ).loc Cert.DenseIdeal.main_arg3) = m ((c.tc : Thread Cert.ExpertsIdeal.nD Cert.ExpertsIdeal.τ).loc Cert.ExpertsIdeal.main_arg3)
      ∧ m' ((c.tc : Thread Cert.DenseIdeal.nD Cert.DenseIdeal.τ).loc Cert.DenseIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v54)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v54) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.DenseIdeal.defs (F := Ideal)) (onTc (τ := Cert.DenseIdeal.τ) (Cert.DenseIdeal.main (F := Ideal))) ⟨m', fun _ => 0, g'⟩ (fun r => ∀ c : Dev Cert.DenseIdeal.nD,
          r.2.mem ((c.tc : Thread Cert.DenseIdeal.nD Cert.DenseIdeal.τ).loc Cert.DenseIdeal.main_v59) = v0 c
          ∧ r.2.mem ((c.tc : Thread Cert.DenseIdeal.nD Cert.DenseIdeal.τ).loc Cert.DenseIdeal.main_arg0) = m' ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m' ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m' ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m' ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m' ((c.tc : Thread Cert.DenseIdeal.nD Cert.DenseIdeal.τ).loc Cert.DenseIdeal.main_arg4))

def preserves_Mixer_MixerIdeal : Prop :=
  True

def Claim : Prop :=
  ∃ (hExperts : Cert.Experts.Facts) (hExpertsIdeal : Cert.ExpertsIdeal.Facts) (hDenseIdeal : Cert.DenseIdeal.Facts) (hMixer : Cert.Mixer.Facts) (hMixerIdeal : Cert.MixerIdeal.Facts) (hPre_counts_of_tokens : Cert.Pre_counts_of_tokens.Facts) (hPre_routed : Cert.Pre_routed.Facts),
    quiescent_Experts (hExperts := hExperts) (hPre_counts_of_tokens := hPre_counts_of_tokens)
    ∧ quiescent_ExpertsIdeal (hExpertsIdeal := hExpertsIdeal) (hPre_counts_of_tokens := hPre_counts_of_tokens)
    ∧ quiescent_ExpertsIdeal_pre_routed (hExpertsIdeal := hExpertsIdeal) (hPre_routed := hPre_routed)
    ∧ quiescent_DenseIdeal (hDenseIdeal := hDenseIdeal)
    ∧ quiescent_DenseIdeal_pre_routed (hDenseIdeal := hDenseIdeal) (hPre_routed := hPre_routed)
    ∧ quiescent_Mixer (hMixer := hMixer)
    ∧ quiescent_MixerIdeal (hMixerIdeal := hMixerIdeal)
    ∧ preserves_Experts_ExpertsIdeal
    ∧ algebraic_ExpertsIdeal_DenseIdeal_pre_routed (hExpertsIdeal := hExpertsIdeal) (hDenseIdeal := hDenseIdeal) (hPre_routed := hPre_routed)
    ∧ preserves_Mixer_MixerIdeal
-- ==== Pre_counts_of_tokens.lean ====
abbrev S24 : Shape := ⟨1, ![24]⟩
abbrev S77824x1152 : Shape := ⟨2, ![77824, 1152]⟩
abbrev S1x16x1024x512 : Shape := ⟨4, ![1, 16, 1024, 512]⟩
abbrev S1x16x512x1024 : Shape := ⟨4, ![1, 16, 512, 1024]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel

variable [Facts]

def fn {F : FTy → Type} [FloatOps F] (main_arg0 : IVec S24 32) (main_arg1 : FVec F S77824x1152 .f32) (main_arg2 : FVec F S1x16x1024x512 .f32) (main_arg3 : FVec F S1x16x1024x512 .f32) (main_arg4 : FVec F S1x16x512x1024 .f32) : IVec S24 1 :=
  let main_c : IVec S_ 32 := constantI S_ 32 0#32
  let main_v0 : IVec S24 32 := broadcastInDim S24 ![] bcast_S_S24 main_c
  let main_v1 : IVec S24 1 := cmpi .sge main_arg0 main_v0
  let main_c_0 : IVec S_ 32 := constantI S_ 32 65536#32
  let main_v2 : IVec S24 32 := broadcastInDim S24 ![] bcast_S_S24 main_c_0
  let main_v3 : IVec S24 1 := cmpi .sle main_arg0 main_v2
  let main_v4 : IVec S24 1 := andi main_v1 main_v3
  let main_c_1 : IVec S_ 32 := constantI S_ 32 0#32
  let main_v5 : IVec S_ 32 := (fun x v => Host.reduce IntOp.addi x v reducesTo_S24_S_d0 h_S_) main_arg0 main_c_1
  let main_c_2 : IVec S_ 32 := constantI S_ 32 65536#32
  let main_v6 : IVec S_ 1 := cmpi .eq main_v5 main_c_2
  let main_v7 : IVec S24 1 := broadcastInDim S24 ![] bcast_S_S24 main_v6
  let main_v8 : IVec S24 1 := andi main_v4 main_v7
  main_v8
-- ==== Pre_routed.lean ====
abbrev S24 : Shape := ⟨1, ![24]⟩
abbrev S77824x1152 : Shape := ⟨2, ![77824, 1152]⟩
abbrev S1x16x1024x512 : Shape := ⟨4, ![1, 16, 1024, 512]⟩
abbrev S1x16x512x1024 : Shape := ⟨4, ![1, 16, 512, 1024]⟩
abbrev S77824x2 : Shape := ⟨2, ![77824, 2]⟩
abbrev S_ : Shape := ⟨0, ![]⟩

class Facts : Prop where
  slices_S77824x1152_S77824x2_0_1024 : S77824x1152.Slices ![0, 1024] S77824x2
  bcast_S_S24 : S_.BroadcastsInDim S24 (![] : Fin 0 → Fin S24.rank)
  reducesTo_S24_S_d0 : S24.ReducesTo [0] S_
  h_S_ : 0 < S_.numel
  bcast_S_S77824x2 : S_.BroadcastsInDim S77824x2 (![] : Fin 0 → Fin S77824x2.rank)

variable [Facts]

def fn_part1 {F : FTy → Type} [FloatOps F] (main_v15 : IVec S77824x2 1) (main_v16 : IVec S77824x2 1) : IVec S77824x2 1 :=
  let main_v17 : IVec S77824x2 1 := andi main_v15 main_v16
  main_v17

def fn {F : FTy → Type} [FloatOps F] (main_arg0 : IVec S24 32) (main_arg1 : FVec F S77824x1152 .f32) (main_arg2 : FVec F S1x16x1024x512 .f32) (main_arg3 : FVec F S1x16x1024x512 .f32) (main_arg4 : FVec F S1x16x512x1024 .f32) : IVec S77824x2 1 :=
  let main_v0 : FVec F S77824x2 .f32 := (extractStridedSlice S77824x2 ![0, 1024] · slices_S77824x1152_S77824x2_0_1024) main_arg1
  let main_c : IVec S_ 32 := constantI S_ 32 0#32
  let main_v1 : IVec S24 32 := broadcastInDim S24 ![] bcast_S_S24 main_c
  let main_v2 : IVec S24 1 := cmpi .sge main_arg0 main_v1
  let main_c_0 : IVec S_ 32 := constantI S_ 32 65536#32
  let main_v3 : IVec S24 32 := broadcastInDim S24 ![] bcast_S_S24 main_c_0
  let main_v4 : IVec S24 1 := cmpi .sle main_arg0 main_v3
  let main_v5 : IVec S24 1 := andi main_v2 main_v4
  let main_c_1 : IVec S_ 32 := constantI S_ 32 0#32
  let main_v6 : IVec S_ 32 := (fun x v => Host.reduce IntOp.addi x v reducesTo_S24_S_d0 h_S_) main_arg0 main_c_1
  let main_c_2 : IVec S_ 32 := constantI S_ 32 65536#32
  let main_v7 : IVec S_ 1 := cmpi .eq main_v6 main_c_2
  let main_v8 : IVec S24 1 := broadcastInDim S24 ![] bcast_S_S24 main_v7
  let main_v9 : IVec S24 1 := andi main_v5 main_v8
  let main_c_3 : IVec S_ 1 := constantI S_ 1 1#1
  let main_v10 : IVec S_ 1 := (fun x v => Host.reduce IntOp.andi x v reducesTo_S24_S_d0 h_S_) main_v9 main_c_3
  let main_cst : FVec F S_ .f32 := constant S_ .f32 0x00000000#32
  let main_v11 : FVec F S77824x2 .f32 := broadcastInDim S77824x2 ![] bcast_S_S77824x2 main_cst
  let main_v12 : IVec S77824x2 1 := cmpf .oge main_v0 main_v11
  let main_cst_4 : FVec F S_ .f32 := constant S_ .f32 0x7F800000#32
  let main_v13 : FVec F S77824x2 .f32 := broadcastInDim S77824x2 ![] bcast_S_S77824x2 main_cst_4
  let main_v14 : IVec S77824x2 1 := cmpf .olt main_v0 main_v13
  let main_v15 : IVec S77824x2 1 := andi main_v12 main_v14
  let main_v16 : IVec S77824x2 1 := broadcastInDim S77824x2 ![] bcast_S_S77824x2 main_v10
  fn_part1 (F := F) main_v15 main_v16
-- ==== Experts.lean ====
abbrev S24 : Shape := ⟨1, ![24]⟩
abbrev S77824x1152 : Shape := ⟨2, ![77824, 1152]⟩
abbrev S1x16x1024x512 : Shape := ⟨4, ![1, 16, 1024, 512]⟩
abbrev S1x16x512x1024 : Shape := ⟨4, ![1, 16, 512, 1024]⟩
abbrev S_ : Shape := ⟨0, ![]⟩
abbrev S1 : Shape := ⟨1, ![1]⟩
abbrev S152 : Shape := ⟨1, ![152]⟩
abbrev S152x1 : Shape := ⟨2, ![152, 1]⟩
abbrev S1x24 : Shape := ⟨2, ![1, 24]⟩
abbrev S152x24 : Shape := ⟨2, ![152, 24]⟩
abbrev S305 : Shape := ⟨1, ![305]⟩
abbrev S16x1024x512 : Shape := ⟨3, ![16, 1024, 512]⟩
abbrev S16x512x1024 : Shape := ⟨3, ![16, 512, 1024]⟩
abbrev S77824x1024 : Shape := ⟨2, ![77824, 1024]⟩
abbrev S512x1152 : Shape := ⟨2, ![512, 1152]⟩
abbrev S1x1024x512 : Shape := ⟨3, ![1, 1024, 512]⟩
abbrev S1x512x1024 : Shape := ⟨3, ![1, 512, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩

abbrev nBuf : Space → Nat
  | .hbm => 105
  | .vmem => 16
  | .smem => 1
  | _ => 0

abbrev bufTy : (tb : Table) → Fin (tcTables nBuf tb) → BufTy
  | .hbm, ⟨0, _⟩ => ⟨S24, .i32⟩
  | .hbm, ⟨1, _⟩ => ⟨S77824x1152, .f32⟩
  | .hbm, ⟨2, _⟩ => ⟨S1x16x1024x512, .f32⟩
  | .hbm, ⟨3, _⟩ => ⟨S1x16x1024x512, .f32⟩
  | .hbm, ⟨4, _⟩ => ⟨S1x16x512x1024, .f32⟩
  | .hbm, ⟨5, _⟩ => ⟨S24, .i32⟩
  | .hbm, ⟨6, _⟩ => ⟨S24, .i32⟩
  | .hbm, ⟨7, _⟩ => ⟨S_, .i32⟩
  | .hbm, ⟨8, _⟩ => ⟨S24, .i32⟩
  | .hbm, ⟨9, _⟩ => ⟨S24, .i32⟩
  | .hbm, ⟨10, _⟩ => ⟨S_, .i32⟩
  | .hbm, ⟨11, _⟩ => ⟨S24, .i32⟩
  | .hbm, ⟨12, _⟩ => ⟨S24, .i32⟩
  | .hbm, ⟨13, _⟩ => ⟨S_, .i32⟩
  | .hbm, ⟨14, _⟩ => ⟨S_, .i32⟩
  | .hbm, ⟨15, _⟩ => ⟨S24, .i32⟩
  | .hbm, ⟨16, _⟩ => ⟨S24, .i32⟩
  | .hbm, ⟨17, _⟩ => ⟨S24, .i32⟩
  | .hbm, ⟨18, _⟩ => ⟨S_, .i32⟩
  | .hbm, ⟨19, _⟩ => ⟨S24, .i32⟩
  | .hbm, ⟨20, _⟩ => ⟨S24, .i1⟩
  | .hbm, ⟨21, _⟩ => ⟨S24, .i32⟩
  | .hbm, ⟨22, _⟩ => ⟨S24, .i32⟩
  | .hbm, ⟨23, _⟩ => ⟨S_, .i32⟩
  | .hbm, ⟨24, _⟩ => ⟨S24, .i32⟩
  | .hbm, ⟨25, _⟩ => ⟨S24, .i1⟩
  | .hbm, ⟨26, _⟩ => ⟨S24, .i1⟩
  | .hbm, ⟨27, _⟩ => ⟨S_, .i32⟩
  | .hbm, ⟨28, _⟩ => ⟨S24, .i32⟩
  | .hbm, ⟨29, _⟩ => ⟨S24, .i32⟩
  | .hbm, ⟨30, _⟩ => ⟨S24, .i32⟩
  | .hbm, ⟨31, _⟩ => ⟨S_, .i32⟩
  | .hbm, ⟨32, _⟩ => ⟨S24, .i32⟩
  | .hbm, ⟨33, _⟩ => ⟨S24, .i32⟩
  | .hbm, ⟨34, _⟩ => ⟨S_, .i32⟩
  | .hbm, ⟨35, _⟩ => ⟨S_, .i32⟩
  | .hbm, ⟨36, _⟩ => ⟨S24, .i32⟩
  | .hbm, ⟨37, _⟩ => ⟨S24, .i32⟩
  | .hbm, ⟨38, _⟩ => ⟨S1, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S152, .i32⟩
  | .hbm, ⟨54, _⟩ => ⟨S152x1, .i32⟩
  | .hbm, ⟨55, _⟩ => ⟨S_, .i32⟩
  | .hbm, ⟨56, _⟩ => ⟨S152x1, .i32⟩
  | .hbm, ⟨57, _⟩ => ⟨S152x1, .i32⟩
  | .hbm, ⟨58, _⟩ => ⟨S1x24, .i32⟩
  | .hbm, ⟨59, _⟩ => ⟨S152x24, .i32⟩
  | .hbm, ⟨60, _⟩ => ⟨S152x24, .i32⟩
  | .hbm, ⟨61, _⟩ => ⟨S152x24, .i1⟩
  | .hbm, ⟨62, _⟩ => ⟨S152x24, .i32⟩
  | .hbm, ⟨63, _⟩ => ⟨S_, .i32⟩
  | .hbm, ⟨64, _⟩ => ⟨S152, .i32⟩
  | .hbm, ⟨65, _⟩ => ⟨S_, .i32⟩
  | .hbm, ⟨66, _⟩ => ⟨S152, .i32⟩
  | .hbm, ⟨67, _⟩ => ⟨S152, .i32⟩
  | .hbm, ⟨68, _⟩ => ⟨S152, .i32⟩
  | .hbm, ⟨69, _⟩ => ⟨S_, .i32⟩
  | .hbm, ⟨70, _⟩ => ⟨S_, .i32⟩
  | .hbm, ⟨71, _⟩ => ⟨S152, .i32⟩
  | .hbm, ⟨72, _⟩ => ⟨S152, .i32⟩
  | .hbm, ⟨73, _⟩ => ⟨S_, .i32⟩
  | .hbm, ⟨74, _⟩ => ⟨S152, .i32⟩
  | .hbm, ⟨75, _⟩ => ⟨S152, .i1⟩
  | .hbm, ⟨76, _⟩ => ⟨S_, .i32⟩
  | .hbm, ⟨77, _⟩ => ⟨S152, .i32⟩
  | .hbm, ⟨78, _⟩ => ⟨S152, .i32⟩
  | .hbm, ⟨79, _⟩ => ⟨S152, .i32⟩
  | .hbm, ⟨80, _⟩ => ⟨S152x1, .i32⟩
  | .hbm, ⟨81, _⟩ => ⟨S152, .i32⟩
  | .hbm, ⟨82, _⟩ => ⟨S1, .i32⟩
  | .hbm, ⟨83, _⟩ => ⟨S_, .i32⟩
  | .hbm, ⟨84, _⟩ => ⟨S152, .i32⟩
  | .hbm, ⟨85, _⟩ => ⟨S152, .i1⟩
  | .hbm, ⟨86, _⟩ => ⟨S_, .i32⟩
  | .hbm, ⟨87, _⟩ => ⟨S152, .i32⟩
  | .hbm, ⟨88, _⟩ => ⟨S152, .i32⟩
  | .hbm, ⟨89, _⟩ => ⟨S152, .i32⟩
  | .hbm, ⟨90, _⟩ => ⟨S152x1, .i32⟩
  | .hbm, ⟨91, _⟩ => ⟨S152, .i32⟩
  | .hbm, ⟨92, _⟩ => ⟨S_, .i32⟩
  | .hbm, ⟨93, _⟩ => ⟨S152, .i32⟩
  | .hbm, ⟨94, _⟩ => ⟨S152, .i1⟩
  | .hbm, ⟨95, _⟩ => ⟨S_, .i32⟩
  | .hbm, ⟨96, _⟩ => ⟨S152, .i32⟩
  | .hbm, ⟨97, _⟩ => ⟨S152, .i32⟩
  | .hbm, ⟨98, _⟩ => ⟨S152, .i32⟩
  | .hbm, ⟨99, _⟩ => ⟨S152x1, .i32⟩
  | .hbm, ⟨100, _⟩ => ⟨S152, .i32⟩
  | .hbm, ⟨101, _⟩ => ⟨S16x1024x512, .f32⟩
  | .hbm, ⟨102, _⟩ => ⟨S16x1024x512, .f32⟩
  | .hbm, ⟨103, _⟩ => ⟨S16x512x1024, .f32⟩
  | .hbm, ⟨104, _⟩ => ⟨S77824x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | .local _ .vmem, ⟨15, _⟩ => ⟨S512x1024, .f32⟩
  | .local _ .smem, ⟨0, _⟩ => ⟨S305, .i32⟩
  | _, _ => ⟨S24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_c_2 : Ref sig .tc := ⟨.hbm, 10, rfl⟩
abbrev main_v2 : Ref sig .tc := ⟨.hbm, 11, rfl⟩
abbrev main_v3 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v4 : Ref sig .tc := ⟨.hbm, 30, rfl⟩
abbrev main_c_4 : Ref sig .tc := ⟨.hbm, 31, rfl⟩
abbrev main_v5 : Ref sig .tc := ⟨.hbm, 32, rfl⟩
abbrev main_v6 : Ref sig .tc := ⟨.hbm, 33, rfl⟩
abbrev main_call1_call0_c : Ref sig .tc := ⟨.hbm, 34, rfl⟩
abbrev main_call1_call0_v0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c : Ref sig .tc := ⟨.hbm, 47, rfl⟩
abbrev main_call2_v6 : Ref sig .tc := ⟨.hbm, 48, rfl⟩
abbrev main_call2_v7 : Ref sig .tc := ⟨.hbm, 49, rfl⟩
abbrev main_call2_c_0 : Ref sig .tc := ⟨.hbm, 50, rfl⟩
abbrev main_call2_v8 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_c_6 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_c_7 : Ref sig .tc := ⟨.hbm, 63, rfl⟩
abbrev main_v21 : Ref sig .tc := ⟨.hbm, 64, rfl⟩
abbrev main_c_8 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_9 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_10 : Ref sig .tc := ⟨.hbm, 73, rfl⟩
abbrev main_v28 : Ref sig .tc := ⟨.hbm, 74, rfl⟩
abbrev main_v29 : Ref sig .tc := ⟨.hbm, 75, rfl⟩
abbrev main_c_11 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_c_12 : Ref sig .tc := ⟨.hbm, 83, rfl⟩
abbrev main_v36 : Ref sig .tc := ⟨.hbm, 84, rfl⟩
abbrev main_v37 : Ref sig .tc := ⟨.hbm, 85, rfl⟩
abbrev main_c_13 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_c_14 : Ref sig .tc := ⟨.hbm, 92, rfl⟩
abbrev main_v43 : Ref sig .tc := ⟨.hbm, 93, rfl⟩
abbrev main_v44 : Ref sig .tc := ⟨.hbm, 94, rfl⟩
abbrev main_c_15 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v50 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![152], ![false]⟩

abbrev pre0 : Pipeline.Prefetch sig := ⟨1, ![main_v50.idx], fun | 0 => main_v50.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c1_i32 : BitVec 32) : Fin 1 → Nat :=
  let arg0 : BitVec 32 := BitVec.ofNat 32 (i 0).val
  let v0 : BitVec 32 := Scalar.addi c1_i32 arg0
  let v1 : Index := Scalar.indexCast v0
  ![v1.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S305_S1_0 : ∀ a, (![0] : Fin 1 → Nat) a + S1.size a ≤ S305.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S305) ![0] S1.size inb_S305_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ (r : Fin 2), ∀ a, (k0_off1 i (BitVec.ofNat 32 (1 + 152 * r.val))) a + S1.size a ≤ S305.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S305) ![v1.toNat] S1.size (k0_off1_inb i 0)) numel1_S1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ (r : Fin 2), ∀ a, (k0_off1 i (BitVec.ofNat 32 (1 + 152 * r.val))) a + S1.size a ≤ S305.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S305) ![v1.toNat] S1.size (k0_off1_inb i 0)) numel1_S1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ (r : Fin 2), ∀ a, (k0_off1 i (BitVec.ofNat 32 (1 + 152 * r.val))) a + S1.size a ≤ S305.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S305) ![v1.toNat] S1.size (k0_off1_inb i 0)) numel1_S1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ (r : Fin 2), ∀ a, (k0_off1 i (BitVec.ofNat 32 (1 + 152 * r.val))) a + S1.size a ≤ S305.size a) (numel1_S1 : S1.numel = 1) (pf : pre0.Contents (Elt F)) (i : grid0.Coords) : Fin 3 → Nat :=
  let arg0 : BitVec 32 := BitVec.ofNat 32 (i 0).val
  let c153_i32 : BitVec 32 := 153#32
  let v0 : BitVec 32 := Scalar.addi c153_i32 arg0
  let v1 : Index := Scalar.indexCast v0
  let v2 : BitVec 32 := pf.at 0 (Rect.unit (s := S305) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_5 (k0_off1_inb : ∀ i : grid0.Coords, ∀ (r : Fin 2), ∀ a, (k0_off1 i (BitVec.ofNat 32 (1 + 152 * r.val))) a + S1.size a ≤ S305.size a) (numel1_S1 : S1.numel = 1) (pf : pre0.Contents (Elt F)) (i : grid0.Coords) : Fin 3 → Nat :=
  let arg0 : BitVec 32 := BitVec.ofNat 32 (i 0).val
  let c153_i32 : BitVec 32 := 153#32
  let v0 : BitVec 32 := Scalar.addi c153_i32 arg0
  let v1 : Index := Scalar.indexCast v0
  let v2 : BitVec 32 := pf.at 0 (Rect.unit (s := S305) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_6 (k0_off1_inb : ∀ i : grid0.Coords, ∀ (r : Fin 2), ∀ a, (k0_off1 i (BitVec.ofNat 32 (1 + 152 * r.val))) a + S1.size a ≤ S305.size a) (numel1_S1 : S1.numel = 1) (pf : pre0.Contents (Elt F)) (i : grid0.Coords) : Fin 3 → Nat :=
  let arg0 : BitVec 32 := BitVec.ofNat 32 (i 0).val
  let c153_i32 : BitVec 32 := 153#32
  let v0 : BitVec 32 := Scalar.addi c153_i32 arg0
  let v1 : Index := Scalar.indexCast v0
  let v2 : BitVec 32 := pf.at 0 (Rect.unit (s := S305) ![v1.toNat] S1.size (k0_off1_inb i 1)) numel1_S1
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DenseIdeal.lean ====
abbrev S24 : Shape := ⟨1, ![24]⟩
abbrev S77824x1152 : Shape := ⟨2, ![77824, 1152]⟩
abbrev S1x16x1024x512 : Shape := ⟨4, ![1, 16, 1024, 512]⟩
abbrev S1x16x512x1024 : Shape := ⟨4, ![1, 16, 512, 1024]⟩
abbrev S_ : Shape := ⟨0, ![]⟩
abbrev S77824x24 : Shape := ⟨2, ![77824, 24]⟩
abbrev S1x24 : Shape := ⟨2, ![1, 24]⟩
abbrev S77824 : Shape := ⟨1, ![77824]⟩
abbrev S77824x1 : Shape := ⟨2, ![77824, 1]⟩
abbrev S1 : Shape := ⟨1, ![1]⟩
abbrev S77824x2 : Shape := ⟨2, ![77824, 2]⟩
abbrev S1x16 : Shape := ⟨2, ![1, 16]⟩
abbrev S77824x16 : Shape := ⟨2, ![77824, 16]⟩
abbrev S77824x1024 : Shape := ⟨2, ![77824, 1024]⟩
abbrev S16x1024x512 : Shape := ⟨3, ![16, 1024, 512]⟩
abbrev S16x512x77824 : Shape := ⟨3, ![16, 512, 77824]⟩
abbrev S16x77824x512 : Shape := ⟨3, ![16, 77824, 512]⟩
abbrev S16x512x1024 : Shape := ⟨3, ![16, 512, 1024]⟩
abbrev S16x77824x1024 : Shape := ⟨3, ![16, 77824, 1024]⟩
abbrev S16x77824 : Shape := ⟨2, ![16, 77824]⟩
abbrev S16x77824x1 : Shape := ⟨3, ![16, 77824, 1]⟩

abbrev nBuf : Space → Nat
  | .hbm => 117
  | .vmem => 0
  | .smem => 0
  | _ => 0

abbrev bufTy : (tb : Table) → Fin (tcTables nBuf tb) → BufTy
  | .hbm, ⟨0, _⟩ => ⟨S24, .i32⟩
  | .hbm, ⟨1, _⟩ => ⟨S77824x1152, .f32⟩
  | .hbm, ⟨2, _⟩ => ⟨S1x16x1024x512, .f32⟩
  | .hbm, ⟨3, _⟩ => ⟨S1x16x1024x512, .f32⟩
  | .hbm, ⟨4, _⟩ => ⟨S1x16x512x1024, .f32⟩
  | .hbm, ⟨5, _⟩ => ⟨S24, .i32⟩
  | .hbm, ⟨6, _⟩ => ⟨S24, .i32⟩
  | .hbm, ⟨7, _⟩ => ⟨S_, .i32⟩
  | .hbm, ⟨8, _⟩ => ⟨S24, .i32⟩
  | .hbm, ⟨9, _⟩ => ⟨S24, .i32⟩
  | .hbm, ⟨10, _⟩ => ⟨S_, .i32⟩
  | .hbm, ⟨11, _⟩ => ⟨S_, .i32⟩
  | .hbm, ⟨12, _⟩ => ⟨S24, .i32⟩
  | .hbm, ⟨13, _⟩ => ⟨S24, .i32⟩
  | .hbm, ⟨14, _⟩ => ⟨S24, .i32⟩
  | .hbm, ⟨15, _⟩ => ⟨S_, .i32⟩
  | .hbm, ⟨16, _⟩ => ⟨S24, .i32⟩
  | .hbm, ⟨17, _⟩ => ⟨S24, .i1⟩
  | .hbm, ⟨18, _⟩ => ⟨S24, .i32⟩
  | .hbm, ⟨19, _⟩ => ⟨S24, .i32⟩
  | .hbm, ⟨20, _⟩ => ⟨S_, .i32⟩
  | .hbm, ⟨21, _⟩ => ⟨S24, .i32⟩
  | .hbm, ⟨22, _⟩ => ⟨S24, .i1⟩
  | .hbm, ⟨23, _⟩ => ⟨S24, .i1⟩
  | .hbm, ⟨24, _⟩ => ⟨S_, .i32⟩
  | .hbm, ⟨25, _⟩ => ⟨S24, .i32⟩
  | .hbm, ⟨26, _⟩ => ⟨S24, .i32⟩
  | .hbm, ⟨27, _⟩ => ⟨S24, .i32⟩
  | .hbm, ⟨28, _⟩ => ⟨S_, .i32⟩
  | .hbm, ⟨29, _⟩ => ⟨S24, .i32⟩
  | .hbm, ⟨30, _⟩ => ⟨S24, .i32⟩
  | .hbm, ⟨31, _⟩ => ⟨S_, .i32⟩
  | .hbm, ⟨32, _⟩ => ⟨S_, .i32⟩
  | .hbm, ⟨33, _⟩ => ⟨S24, .i32⟩
  | .hbm, ⟨34, _⟩ => ⟨S77824x24, .i32⟩
  | .hbm, ⟨35, _⟩ => ⟨S1x24, .i32⟩
  | .hbm, ⟨36, _⟩ => ⟨S77824x24, .i32⟩
  | .hbm, ⟨37, _⟩ => ⟨S77824x24, .i1⟩
  | .hbm, ⟨38, _⟩ => ⟨S77824x24, .i32⟩
  | .hbm, ⟨39, _⟩ => ⟨S_, .i32⟩
  | .hbm, ⟨40, _⟩ => ⟨S77824, .i32⟩
  | .hbm, ⟨41, _⟩ => ⟨S_, .i32⟩
  | .hbm, ⟨42, _⟩ => ⟨S77824, .i32⟩
  | .hbm, ⟨43, _⟩ => ⟨S77824, .i32⟩
  | .hbm, ⟨44, _⟩ => ⟨S77824x1, .i32⟩
  | .hbm, ⟨45, _⟩ => ⟨S1, .i32⟩
  | .hbm, ⟨46, _⟩ => ⟨S_, .i32⟩
  | .hbm, ⟨47, _⟩ => ⟨S77824x1, .i32⟩
  | .hbm, ⟨48, _⟩ => ⟨S77824x1, .i1⟩
  | .hbm, ⟨49, _⟩ => ⟨S_, .i32⟩
  | .hbm, ⟨50, _⟩ => ⟨S77824, .i32⟩
  | .hbm, ⟨51, _⟩ => ⟨S77824, .i1⟩
  | .hbm, ⟨52, _⟩ => ⟨S_, .i32⟩
  | .hbm, ⟨53, _⟩ => ⟨S77824, .i32⟩
  | .hbm, ⟨54, _⟩ => ⟨S77824, .i32⟩
  | .hbm, ⟨55, _⟩ => ⟨S77824, .i32⟩
  | .hbm, ⟨56, _⟩ => ⟨S77824x1, .i32⟩
  | .hbm, ⟨57, _⟩ => ⟨S77824, .i32⟩
  | .hbm, ⟨58, _⟩ => ⟨S_, .i32⟩
  | .hbm, ⟨59, _⟩ => ⟨S77824, .i32⟩
  | .hbm, ⟨60, _⟩ => ⟨S77824, .i1⟩
  | .hbm, ⟨61, _⟩ => ⟨S_, .i32⟩
  | .hbm, ⟨62, _⟩ => ⟨S77824, .i32⟩
  | .hbm, ⟨63, _⟩ => ⟨S77824, .i32⟩
  | .hbm, ⟨64, _⟩ => ⟨S77824, .i32⟩
  | .hbm, ⟨65, _⟩ => ⟨S77824x1, .i32⟩
  | .hbm, ⟨66, _⟩ => ⟨S77824, .i32⟩
  | .hbm, ⟨67, _⟩ => ⟨S77824x2, .f32⟩
  | .hbm, ⟨68, _⟩ => ⟨S77824x1, .i32⟩
  | .hbm, ⟨69, _⟩ => ⟨S1x16, .i32⟩
  | .hbm, ⟨70, _⟩ => ⟨S77824x16, .i32⟩
  | .hbm, ⟨71, _⟩ => ⟨S77824x16, .i32⟩
  | .hbm, ⟨72, _⟩ => ⟨S77824x16, .i1⟩
  | .hbm, ⟨73, _⟩ => ⟨S77824x16, .f32⟩
  | .hbm, ⟨74, _⟩ => ⟨S77824x1, .f32⟩
  | .hbm, ⟨75, _⟩ => ⟨S77824x16, .f32⟩
  | .hbm, ⟨76, _⟩ => ⟨S77824x16, .f32⟩
  | .hbm, ⟨77, _⟩ => ⟨S77824x1, .i32⟩
  | .hbm, ⟨78, _⟩ => ⟨S1x16, .i32⟩
  | .hbm, ⟨79, _⟩ => ⟨S77824x16, .i32⟩
  | .hbm, ⟨80, _⟩ => ⟨S77824x16, .i32⟩
  | .hbm, ⟨81, _⟩ => ⟨S77824x16, .i1⟩
  | .hbm, ⟨82, _⟩ => ⟨S77824x16, .f32⟩
  | .hbm, ⟨83, _⟩ => ⟨S77824x1, .f32⟩
  | .hbm, ⟨84, _⟩ => ⟨S77824x16, .f32⟩
  | .hbm, ⟨85, _⟩ => ⟨S77824x16, .f32⟩
  | .hbm, ⟨86, _⟩ => ⟨S77824x16, .f32⟩
  | .hbm, ⟨87, _⟩ => ⟨S_, .f32⟩
  | .hbm, ⟨88, _⟩ => ⟨S_, .f32⟩
  | .hbm, ⟨89, _⟩ => ⟨S77824x16, .i1⟩
  | .hbm, ⟨90, _⟩ => ⟨S77824x16, .f32⟩
  | .hbm, ⟨91, _⟩ => ⟨S77824x16, .f32⟩
  | .hbm, ⟨92, _⟩ => ⟨S77824x1024, .f32⟩
  | .hbm, ⟨93, _⟩ => ⟨S16x1024x512, .f32⟩
  | .hbm, ⟨94, _⟩ => ⟨S16x512x77824, .f32⟩
  | .hbm, ⟨95, _⟩ => ⟨S16x77824x512, .f32⟩
  | .hbm, ⟨96, _⟩ => ⟨S16x1024x512, .f32⟩
  | .hbm, ⟨97, _⟩ => ⟨S16x512x77824, .f32⟩
  | .hbm, ⟨98, _⟩ => ⟨S16x77824x512, .f32⟩
  | .hbm, ⟨99, _⟩ => ⟨S16x77824x512, .f32⟩
  | .hbm, ⟨100, _⟩ => ⟨S16x77824x512, .f32⟩
  | .hbm, ⟨101, _⟩ => ⟨S_, .f32⟩
  | .hbm, ⟨102, _⟩ => ⟨S16x77824x512, .f32⟩
  | .hbm, ⟨103, _⟩ => ⟨S16x77824x512, .f32⟩
  | .hbm, ⟨104, _⟩ => ⟨S_, .f32⟩
  | .hbm, ⟨105, _⟩ => ⟨S16x77824x512, .f32⟩
  | .hbm, ⟨106, _⟩ => ⟨S16x77824x512, .f32⟩
  | .hbm, ⟨107, _⟩ => ⟨S16x77824x512, .f32⟩
  | .hbm, ⟨108, _⟩ => ⟨S16x77824x512, .f32⟩
  | .hbm, ⟨109, _⟩ => ⟨S16x512x1024, .f32⟩
  | .hbm, ⟨110, _⟩ => ⟨S16x77824x1024, .f32⟩
  | .hbm, ⟨111, _⟩ => ⟨S16x77824, .f32⟩
  | .hbm, ⟨112, _⟩ => ⟨S16x77824x1, .f32⟩
  | .hbm, ⟨113, _⟩ => ⟨S16x77824x1024, .f32⟩
  | .hbm, ⟨114, _⟩ => ⟨S16x77824x1024, .f32⟩
  | .hbm, ⟨115, _⟩ => ⟨S_, .f32⟩
  | .hbm, ⟨116, _⟩ => ⟨S77824x1024, .f32⟩
  | _, _ => ⟨S24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_c_3 : Ref sig .tc := ⟨.hbm, 28, rfl⟩
abbrev main_v3 : Ref sig .tc := ⟨.hbm, 29, rfl⟩
abbrev main_v4 : Ref sig .tc := ⟨.hbm, 30, rfl⟩
abbrev main_call1_call0_c : Ref sig .tc := ⟨.hbm, 31, rfl⟩
abbrev main_call1_call0_v0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_4 : Ref sig .tc := ⟨.hbm, 39, rfl⟩
abbrev main_v11 : Ref sig .tc := ⟨.hbm, 40, rfl⟩
abbrev main_c_5 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_c_7 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_c_9 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_call5_v0 : Ref sig .tc := ⟨.hbm, 99, rfl⟩
abbrev main_call5_v1 : Ref sig .tc := ⟨.hbm, 100, rfl⟩
abbrev main_call5_cst : Ref sig .tc := ⟨.hbm, 101, rfl⟩
abbrev main_call5_v2 : Ref sig .tc := ⟨.hbm, 102, rfl⟩
abbrev main_call5_v3 : Ref sig .tc := ⟨.hbm, 103, rfl⟩
abbrev main_call5_cst_0 : Ref sig .tc := ⟨.hbm, 104, rfl⟩
abbrev main_call5_v4 : Ref sig .tc := ⟨.hbm, 105, rfl⟩
abbrev main_call5_v5 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_10 : Ref sig .tc := ⟨.hbm, 115, rfl⟩
abbrev main_v59 : Ref sig .tc := ⟨.hbm, 116, rfl⟩

abbrev nD : Nat := 1
abbrev τ : Topo := Topo.v7x

variable {F : FTy → Type} [FloatOps F]
-- ==== Mixer.lean ====
abbrev S16x4096x1024 : Shape := ⟨3, ![16, 4096, 1024]⟩
abbrev S1x1024 : Shape := ⟨2, ![1, 1024]⟩
abbrev S1x1024x4608 : Shape := ⟨3, ![1, 1024, 4608]⟩
abbrev S1x4x128x128 : Shape := ⟨4, ![1, 4, 128, 128]⟩
abbrev S1x512 : Shape := ⟨2, ![1, 512]⟩
abbrev S1x4x1024 : Shape := ⟨3, ![1, 4, 1024]⟩
abbrev S1x16x64x64 : Shape := ⟨4, ![1, 16, 64, 64]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1024x4 : Shape := ⟨2, ![1024, 4]⟩
abbrev S4x1024 : Shape := ⟨2, ![4, 1024]⟩
abbrev S1024x16 : Shape := ⟨2, ![1024, 16]⟩
abbrev S16x1024 : Shape := ⟨2, ![16, 1024]⟩
abbrev S_ : Shape := ⟨0, ![]⟩
abbrev S12x1024 : Shape := ⟨2, ![12, 1024]⟩
abbrev S32x1024 : Shape := ⟨2, ![32, 1024]⟩
abbrev S4 : Shape := ⟨1, ![4]⟩
abbrev S16 : Shape := ⟨1, ![16]⟩
abbrev S12 : Shape := ⟨1, ![12]⟩
abbrev S32 : Shape := ⟨1, ![32]⟩
abbrev S32x1 : Shape := ⟨2, ![32, 1]⟩
abbrev S32x512 : Shape := ⟨2, ![32, 512]⟩
abbrev S1024x4608 : Shape := ⟨2, ![1024, 4608]⟩
abbrev S1024x1024 : Shape := ⟨2, ![1024, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S1024 : Shape := ⟨1, ![1024]⟩
abbrev S1024x1536 : Shape := ⟨2, ![1024, 1536]⟩
abbrev S1024x2560 : Shape := ⟨2, ![1024, 2560]⟩
abbrev S4x128x128 : Shape := ⟨3, ![4, 128, 128]⟩
abbrev S2x2x128x128 : Shape := ⟨4, ![2, 2, 128, 128]⟩
abbrev S2x2 : Shape := ⟨2, ![2, 2]⟩
abbrev S2x2x128x1x128 : Shape := ⟨5, ![2, 2, 128, 1, 128]⟩
abbrev S1x2x1x2x1 : Shape := ⟨5, ![1, 2, 1, 2, 1]⟩
abbrev S2x2x128x2x128 : Shape := ⟨5, ![2, 2, 128, 2, 128]⟩
abbrev S2x256x256 : Shape := ⟨3, ![2, 256, 256]⟩
abbrev S512 : Shape := ⟨1, ![512]⟩
abbrev S16x64x64 : Shape := ⟨3, ![16, 64, 64]⟩
abbrev S4x4x64x64 : Shape := ⟨4, ![4, 4, 64, 64]⟩
abbrev S4x4 : Shape := ⟨2, ![4, 4]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S512x1024 : Shape := ⟨2, ![512, 1024]⟩
abbrev S65536x1024 : Shape := ⟨2, ![65536, 1024]⟩
abbrev S65536x1152 : Shape := ⟨2, ![65536, 1152]⟩
abbrev S8x65536 : Shape := ⟨2, ![8, 65536]⟩
abbrev S512x1152 : Shape := ⟨2, ![512, 1152]⟩
abbrev S8x512 : Shape := ⟨2, ![8, 512]⟩
abbrev S2x64x8x1024 : Shape := ⟨4, ![2, 64, 8, 1024]⟩
abbrev S2 : Shape := ⟨1, ![2]⟩
abbrev S640x512 : Shape := ⟨2, ![640, 512]⟩
abbrev S536x1024 : Shape := ⟨2, ![536, 1024]⟩
abbrev S8x512x256 : Shape := ⟨3, ![8, 512, 256]⟩
abbrev S8x1024 : Shape := ⟨2, ![8, 1024]⟩
abbrev S1 : Shape := ⟨1, ![1]⟩
abbrev S1x64x1x1024 : Shape := ⟨4, ![1, 64, 1, 1024]⟩
abbrev S64x1024 : Shape := ⟨2, ![64, 1024]⟩
abbrev S1x64x1024 : Shape := ⟨3, ![1, 64, 1024]⟩
abbrev S128x512 : Shape := ⟨2, ![128, 512]⟩
abbrev S24x1024 : Shape := ⟨2, ![24, 1024]⟩
abbrev S1x64x8x1024 : Shape := ⟨4, ![1, 64, 8, 1024]⟩
abbrev S64x8x1024 : Shape := ⟨3, ![64, 8, 1024]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S640x128 : Shape := ⟨2, ![640, 128]⟩
abbrev S632x128 : Shape := ⟨2, ![632, 128]⟩
abbrev S616x128 : Shape := ⟨2, ![616, 128]⟩
abbrev S584x128 : Shape := ⟨2, ![584, 128]⟩
abbrev S520x128 : Shape := ⟨2, ![520, 128]⟩
abbrev S512x256 : Shape := ⟨2, ![512, 256]⟩
abbrev S1x256x256 : Shape := ⟨3, ![1, 256, 256]⟩
abbrev S256x256 : Shape := ⟨2, ![256, 256]⟩
abbrev S1x1024x256 : Shape := ⟨3, ![1, 1024, 256]⟩
abbrev S1024x256 : Shape := ⟨2, ![1024, 256]⟩
abbrev S1x512x256 : Shape := ⟨3, ![1, 512, 256]⟩
abbrev S4x512 : Shape := ⟨2, ![4, 512]⟩
abbrev S120x512 : Shape := ⟨2, ![120, 512]⟩

abbrev nBuf : Space → Nat
  | .hbm => 136
  | .vmem => 35
  | .smem => 0
  | _ => 0

abbrev hbmTy0_0 (i : Nat) : BufTy := match i % 128 with
  | 0 => ⟨S16x4096x1024, .f32⟩
  | 1 => ⟨S1x1024, .f32⟩
  | 2 => ⟨S1x1024x4608, .f32⟩
  | 3 => ⟨S1x4x128x128, .f32⟩
  | 4 => ⟨S1x512, .f32⟩
  | 5 => ⟨S1x4x1024, .f32⟩
  | 6 => ⟨S1x1024, .f32⟩
  | 7 => ⟨S1x16x64x64, .f32⟩
  | 8 => ⟨S1x1024, .f32⟩
  | 9 => ⟨S1x16x64x64, .f32⟩
  | 10 => ⟨S1x1024, .f32⟩
  | 11 => ⟨S1x1024, .f32⟩
  | 12 => ⟨S1x512x1024, .f32⟩
  | 13 => ⟨S1x1024x1024, .f32⟩
  | 14 => ⟨S1x1024x1024, .f32⟩
  | 15 => ⟨S1x1024, .f32⟩
  | 16 => ⟨S1x1024x4, .f32⟩
  | 17 => ⟨S1x4, .f32⟩
  | 18 => ⟨S1x1024x16, .f32⟩
  | 19 => ⟨S1x16, .f32⟩
  | 20 => ⟨S1024x4, .f32⟩
  | 21 => ⟨S4x1024, .f32⟩
  | 22 => ⟨S1024x16, .f32⟩
  | 23 => ⟨S16x1024, .f32⟩
  | 24 => ⟨S_, .f32⟩
  | 25 => ⟨S12x1024, .f32⟩
  | 26 => ⟨S32x1024, .f32⟩
  | 27 => ⟨S4, .f32⟩
  | 28 => ⟨S16, .f32⟩
  | 29 => ⟨S_, .f32⟩
  | 30 => ⟨S12, .f32⟩
  | 31 => ⟨S32, .f32⟩
  | 32 => ⟨S32x1, .f32⟩
  | 33 => ⟨S32x512, .f32⟩
  | 34 => ⟨S1024x4608, .f32⟩
  | 35 => ⟨S1024x4608, .bf16⟩
  | 36 => ⟨S1024x1024, .bf16⟩
  | 37 => ⟨S1024x1024, .bf16⟩
  | 38 => ⟨S1024x2048, .bf16⟩
  | 39 => ⟨S_, .bf16⟩
  | 40 => ⟨S1024x2048, .bf16⟩
  | 41 => ⟨S1024x2048, .bf16⟩
  | 42 => ⟨S1024x8x256, .bf16⟩
  | 43 => ⟨S8x1024x256, .bf16⟩
  | 44 => ⟨S1024, .f32⟩
  | 45 => ⟨S1x1024, .f32⟩
  | 46 => ⟨S1024x1536, .bf16⟩
  | 47 => ⟨S1024x1024, .bf16⟩
  | 48 => ⟨S_, .bf16⟩
  | 49 => ⟨S1024x1024, .bf16⟩
  | 50 => ⟨S1024x1024, .bf16⟩
  | 51 => ⟨S1024x2560, .bf16⟩
  | 52 => ⟨S4x128x128, .f32⟩
  | 53 => ⟨S2x2x128x128, .f32⟩
  | 54 => ⟨S2x2, .i32⟩
  | 55 => ⟨S2x2, .i32⟩
  | 56 => ⟨S_, .i32⟩
  | 57 => ⟨S2x2, .i32⟩
  | 58 => ⟨S2x2, .i32⟩
  | 59 => ⟨S2x2, .i1⟩
  | 60 => ⟨S2x2, .f32⟩
  | 61 => ⟨S2x2x128x1x128, .f32⟩
  | 62 => ⟨S1x2x1x2x1, .f32⟩
  | 63 => ⟨S2x2x128x2x128, .f32⟩
  | 64 => ⟨S2x2x128x2x128, .f32⟩
  | 65 => ⟨S2x2x128x2x128, .f32⟩
  | 66 => ⟨S2x256x256, .f32⟩
  | 67 => ⟨S2x256x256, .bf16⟩
  | 68 => ⟨S512, .f32⟩
  | 69 => ⟨S1x512, .f32⟩
  | 70 => ⟨S4x1024, .f32⟩
  | 71 => ⟨S1024, .f32⟩
  | 72 => ⟨S1x1024, .f32⟩
  | 73 => ⟨S16x64x64, .f32⟩
  | 74 => ⟨S4x4x64x64, .f32⟩
  | 75 => ⟨S4x4, .i32⟩
  | 76 => ⟨S4x4, .i32⟩
  | 77 => ⟨S_, .i32⟩
  | 78 => ⟨S4x4, .i32⟩
  | 79 => ⟨S4x4, .i32⟩
  | 80 => ⟨S4x4, .i1⟩
  | 81 => ⟨S4x4, .f32⟩
  | 82 => ⟨S4x4x64x1x64, .f32⟩
  | 83 => ⟨S1x4x1x4x1, .f32⟩
  | 84 => ⟨S4x4x64x4x64, .f32⟩
  | 85 => ⟨S4x4x64x4x64, .f32⟩
  | 86 => ⟨S4x4x64x4x64, .f32⟩
  | 87 => ⟨S4x256x256, .f32⟩
  | 88 => ⟨S_, .f32⟩
  | 89 => ⟨S4x256x256, .f32⟩
  | 90 => ⟨S4x256x256, .f32⟩
  | 91 => ⟨S4x256x256, .bf16⟩
  | 92 => ⟨S16x64x64, .f32⟩
  | 93 => ⟨S4x4x64x64, .f32⟩
  | 94 => ⟨S4x4, .i32⟩
  | 95 => ⟨S4x4, .i32⟩
  | 96 => ⟨S_, .i32⟩
  | 97 => ⟨S4x4, .i32⟩
  | 98 => ⟨S4x4, .i32⟩
  | 99 => ⟨S4x4, .i1⟩
  | 100 => ⟨S4x4, .f32⟩
  | 101 => ⟨S4x4x64x1x64, .f32⟩
  | 102 => ⟨S1x4x1x4x1, .f32⟩
  | 103 => ⟨S4x4x64x4x64, .f32⟩
  | 104 => ⟨S4x4x64x4x64, .f32⟩
  | 105 => ⟨S4x4x64x4x64, .f32⟩
  | 106 => ⟨S4x256x256, .f32⟩
  | 107 => ⟨S_, .f32⟩
  | 108 => ⟨S4x256x256, .f32⟩
  | 109 => ⟨S4x256x256, .f32⟩
  | 110 => ⟨S4x256x256, .bf16⟩
  | 111 => ⟨S1024, .f32⟩
  | 112 => ⟨S1x1024, .f32⟩
  | 113 => ⟨S_, .f32⟩
  | 114 => ⟨S1x1024, .f32⟩
  | 115 => ⟨S1x1024, .f32⟩
  | 116 => ⟨S1024, .f32⟩
  | 117 => ⟨S1x1024, .f32⟩
  | 118 => ⟨S_, .f32⟩
  | 119 => ⟨S1x1024, .f32⟩
  | 120 => ⟨S1x1024, .f32⟩
  | 121 => ⟨S1024, .f32⟩
  | 122 => ⟨S1x1024, .f32⟩
  | 123 => ⟨S512x1024, .f32⟩
  | 124 => ⟨S512x1024, .bf16⟩
  | 125 => ⟨S1024x1024, .f32⟩
  | 126 => ⟨S1024x1024, .bf16⟩
  | 127 => ⟨S1024x1024, .f32⟩
  | _ => ⟨S16x4096x1024, .f32⟩

abbrev hbmTy0_1 (i : Nat) : BufTy := match i % 128 with
  | 0 => ⟨S1024x1024, .bf16⟩
  | 1 => ⟨S1024, .f32⟩
  | 2 => ⟨S1x1024, .f32⟩
  | 3 => ⟨S32x1024, .bf16⟩
  | 4 => ⟨S65536x1024, .f32⟩
  | 5 => ⟨S65536x1152, .f32⟩
  | 6 => ⟨S32x512, .f32⟩
  | 7 => ⟨S8x65536, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | .local _ .vmem, ⟨0, _⟩ => ⟨S1x1024, .f32⟩
  | .local _ .vmem, ⟨1, _⟩ => ⟨S1024x2560, .bf16⟩
  | .local _ .vmem, ⟨2, _⟩ => ⟨S2x256x256, .bf16⟩
  | .local _ .vmem, ⟨3, _⟩ => ⟨S1x512, .f32⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S4x256x256, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S32x1024, .bf16⟩
  | .local _ .vmem, ⟨16, _⟩ => ⟨S32x512, .f32⟩
  | .local _ .vmem, ⟨17, _⟩ => ⟨S8x1024x256, .bf16⟩
  | .local _ .vmem, ⟨18, _⟩ => ⟨S512x1024, .f32⟩
  | .local _ .vmem, ⟨19, _⟩ => ⟨S512x1024, .f32⟩
  | .local _ .vmem, ⟨20, _⟩ => ⟨S512x1152, .f32⟩
  | .local _ .vmem, ⟨21, _⟩ => ⟨S512x1152, .f32⟩
  | .local _ .vmem, ⟨22, _⟩ => ⟨S32x512, .f32⟩
  | .local _ .vmem, ⟨23, _⟩ => ⟨S8x512, .f32⟩
  | .local _ .vmem, ⟨24, _⟩ => ⟨S8x512, .f32⟩
  | .local _ .vmem, ⟨25, _⟩ => ⟨S2x64x8x1024, .f32⟩
  | .local _ .vmem, ⟨26, _⟩ => ⟨S640x512, .f32⟩
  | .local _ .vmem, ⟨27, _⟩ => ⟨S536x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S8x512x256, .f32⟩
  | .local _ .vmem, ⟨33, _⟩ => ⟨S8x1024, .f32⟩
  | .local _ .vmem, ⟨34, _⟩ => ⟨S32x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_3 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_4 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_5 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_6 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_7 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_8 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101_0 : Ref sig .tc := ⟨.hbm, 132, rfl⟩
abbrev main_v101_1 : Ref sig .tc := ⟨.hbm, 133, rfl⟩
abbrev main_v101_2 : Ref sig .tc := ⟨.hbm, 134, rfl⟩
abbrev main_v101_3 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg18_1 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_scratch0 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem18_1 : DmaSem sig := 19
abbrev cc0_sem19_0 : DmaSem sig := 20
abbrev cc0_sem19_1 : DmaSem sig := 21
abbrev cc0_sem20_0 : DmaSem sig := 22
abbrev cc0_sem21_0 : DmaSem sig := 23
abbrev cc0_sem21_1 : DmaSem sig := 24

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c0_i32_3 : BitVec 32 := 0#32
  let v12 : BitVec 1 := Scalar.cmpi .eq v1 c0_i32_3
  let v13 : BitVec 32 := Scalar.extui v12
  let c0_i32_4 : BitVec 32 := 0#32
  let v14 : BitVec 1 := Scalar.cmpi .ne v13 c0_i32_4
  v14

def k0_off1 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off2 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_702 : BitVec 32 := 0#32
  let c0_i32_701 : BitVec 32 := 0#32
  let c0_i32_703 : BitVec 32 := 0#32
  ![v11.toNat, 0, 0, 0]
def k0_off3 (i : grid0.Coords) (c0_i32_678 : BitVec 32) : Fin 3 → Nat :=
  let arg0 : BitVec 32 := BitVec.ofNat 32 (i 0).val
  let c8_i32_677 : BitVec 32 := 8#32
  let v1096 : BitVec 32 := Scalar.muli arg0 c8_i32_677
  let v1097 : BitVec 32 := Scalar.addi v1096 c0_i32_678
  let arg1 : BitVec 32 := BitVec.ofNat 32 (i 1).val
  let c64_i32_679 : BitVec 32 := 64#32
  let v1098 : BitVec 32 := Scalar.muli arg1 c64_i32_679
  let c0_i32_704 : BitVec 32 := 0#32
  ![v1097.toNat, v1098.toNat, 0]
def k0_off4 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_706 : BitVec 32 := 0#32
  let c1_i32_705 : BitVec 32 := 1#32
  let c0_i32_707 : BitVec 32 := 0#32
  ![v11.toNat, 0, 1, 0]
def k0_off5 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_710 : BitVec 32 := 0#32
  let c2_i32_709 : BitVec 32 := 2#32
  let c0_i32_711 : BitVec 32 := 0#32
  ![v11.toNat, 0, 2, 0]
def k0_off6 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_714 : BitVec 32 := 0#32
  let c3_i32_713 : BitVec 32 := 3#32
  let c0_i32_715 : BitVec 32 := 0#32
  ![v11.toNat, 0, 3, 0]
def k0_off7 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_718 : BitVec 32 := 0#32
  let c4_i32_717 : BitVec 32 := 4#32
  let c0_i32_719 : BitVec 32 := 0#32
  ![v11.toNat, 0, 4, 0]
def k0_off8 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_722 : BitVec 32 := 0#32
  let c5_i32_721 : BitVec 32 := 5#32
  let c0_i32_723 : BitVec 32 := 0#32
  ![v11.toNat, 0, 5, 0]
def k0_off9 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_726 : BitVec 32 := 0#32
  let c6_i32_725 : BitVec 32 := 6#32
  let c0_i32_727 : BitVec 32 := 0#32
  ![v11.toNat, 0, 6, 0]
def k0_off10 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_730 : BitVec 32 := 0#32
  let c7_i32_729 : BitVec 32 := 7#32
  let c0_i32_731 : BitVec 32 := 0#32
  ![v11.toNat, 0, 7, 0]
def k0_cond2 (i : grid0.Coords) : BitVec 1 :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c1_i32_5 : BitVec 32 := 1#32
  let v15 : BitVec 32 := Scalar.addi v1 c1_i32_5
  let c128_i32 : BitVec 32 := 128#32
  let v16 : BitVec 1 := Scalar.cmpi .slt v15 c128_i32
  let v17 : BitVec 32 := Scalar.extui v16
  let c0_i32_6 : BitVec 32 := 0#32
  let v18 : BitVec 1 := Scalar.cmpi .ne v17 c0_i32_6
  v18

def k0_off11 (i : grid0.Coords) : Fin 1 → Nat :=
  let c1_i32_682 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1102 : BitVec 32 := Scalar.subi c1_i32_682 v11
  ![v1102.toNat]
def k0_off12 (i : grid0.Coords) : Fin 4 → Nat :=
  let c1_i32_682 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1102 : BitVec 32 := Scalar.subi c1_i32_682 v11
  let c0_i32_708 : BitVec 32 := 0#32
  let c0_i32_707 : BitVec 32 := 0#32
  let c0_i32_709 : BitVec 32 := 0#32
  ![v1102.toNat, 0, 0, 0]
def k0_off13 (i : grid0.Coords) (c0_i32_684 : BitVec 32) : Fin 3 → Nat :=
  let arg1 : BitVec 32 := BitVec.ofNat 32 (i 1).val
  let c1_i32_677 : BitVec 32 := 1#32
  let v1096 : BitVec 32 := Scalar.addi arg1 c1_i32_677
  let c64_i32_678 : BitVec 32 := 64#32
  let v1097 : BitVec 1 := Scalar.cmpi .eq v1096 c64_i32_678
  let arg0 : BitVec 32 := BitVec.ofNat 32 (i 0).val
  let c1_i32_679 : BitVec 32 := 1#32
  let v1098 : BitVec 32 := Scalar.addi arg0 c1_i32_679
  let v1099 : BitVec 32 := Scalar.select v1097 v1098 arg0
  let c8_i32_683 : BitVec 32 := 8#32
  let v1103 : BitVec 32 := Scalar.muli v1099 c8_i32_683
  let v1104 : BitVec 32 := Scalar.addi v1103 c0_i32_684
  let c0_i32_681 : BitVec 32 := 0#32
  let c1_i32_680 : BitVec 32 := 1#32
  let v1100 : BitVec 32 := Scalar.addi arg1 c1_i32_680
  let v1101 : BitVec 32 := Scalar.select v1097 c0_i32_681 v1100
  let c64_i32_685 : BitVec 32 := 64#32
  let v1105 : BitVec 32 := Scalar.muli v1101 c64_i32_685
  let c0_i32_710 : BitVec 32 := 0#32
  ![v1104.toNat, v1105.toNat, 0]
def k0_off14 (i : grid0.Coords) : Fin 4 → Nat :=
  let c1_i32_682 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1102 : BitVec 32 := Scalar.subi c1_i32_682 v11
  let c0_i32_712 : BitVec 32 := 0#32
  let c1_i32_711 : BitVec 32 := 1#32
  let c0_i32_713 : BitVec 32 := 0#32
  ![v1102.toNat, 0, 1, 0]
def k0_off15 (i : grid0.Coords) : Fin 4 → Nat :=
  let c1_i32_682 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1102 : BitVec 32 := Scalar.subi c1_i32_682 v11
  let c0_i32_716 : BitVec 32 := 0#32
  let c2_i32_715 : BitVec 32 := 2#32
  let c0_i32_717 : BitVec 32 := 0#32
  ![v1102.toNat, 0, 2, 0]
def k0_off16 (i : grid0.Coords) : Fin 4 → Nat :=
  let c1_i32_682 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1102 : BitVec 32 := Scalar.subi c1_i32_682 v11
  let c0_i32_720 : BitVec 32 := 0#32
  let c3_i32_719 : BitVec 32 := 3#32
  let c0_i32_721 : BitVec 32 := 0#32
  ![v1102.toNat, 0, 3, 0]
def k0_off17 (i : grid0.Coords) : Fin 4 → Nat :=
  let c1_i32_682 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1102 : BitVec 32 := Scalar.subi c1_i32_682 v11
  let c0_i32_724 : BitVec 32 := 0#32
  let c4_i32_723 : BitVec 32 := 4#32
  let c0_i32_725 : BitVec 32 := 0#32
  ![v1102.toNat, 0, 4, 0]
def k0_off18 (i : grid0.Coords) : Fin 4 → Nat :=
  let c1_i32_682 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1102 : BitVec 32 := Scalar.subi c1_i32_682 v11
  let c0_i32_728 : BitVec 32 := 0#32
  let c5_i32_727 : BitVec 32 := 5#32
  let c0_i32_729 : BitVec 32 := 0#32
  ![v1102.toNat, 0, 5, 0]
def k0_off19 (i : grid0.Coords) : Fin 4 → Nat :=
  let c1_i32_682 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1102 : BitVec 32 := Scalar.subi c1_i32_682 v11
  let c0_i32_732 : BitVec 32 := 0#32
  let c6_i32_731 : BitVec 32 := 6#32
  let c0_i32_733 : BitVec 32 := 0#32
  ![v1102.toNat, 0, 6, 0]
def k0_off20 (i : grid0.Coords) : Fin 4 → Nat :=
  let c1_i32_682 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1102 : BitVec 32 := Scalar.subi c1_i32_682 v11
  let c0_i32_736 : BitVec 32 := 0#32
  let c7_i32_735 : BitVec 32 := 7#32
  let c0_i32_737 : BitVec 32 := 0#32
  ![v1102.toNat, 0, 7, 0]
def k0_off21 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off22 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_30 : BitVec 32 := 0#32
  let c0_i32_29 : BitVec 32 := 0#32
  let c0_i32_31 : BitVec 32 := 0#32
  ![v11.toNat, 0, 0, 0]
def k0_off23 (i : grid0.Coords) (c0_i32_11 : BitVec 32) : Fin 3 → Nat :=
  let arg0 : BitVec 32 := BitVec.ofNat 32 (i 0).val
  let c8_i32 : BitVec 32 := 8#32
  let v25 : BitVec 32 := Scalar.muli arg0 c8_i32
  let v26 : BitVec 32 := Scalar.addi v25 c0_i32_11
  let arg1 : BitVec 32 := BitVec.ofNat 32 (i 1).val
  let c64_i32_12 : BitVec 32 := 64#32
  let v27 : BitVec 32 := Scalar.muli arg1 c64_i32_12
  let c0_i32_32 : BitVec 32 := 0#32
  ![v26.toNat, v27.toNat, 0]
def k0_off24 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_34 : BitVec 32 := 0#32
  let c1_i32_33 : BitVec 32 := 1#32
  let c0_i32_35 : BitVec 32 := 0#32
  ![v11.toNat, 0, 1, 0]
def k0_off25 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_38 : BitVec 32 := 0#32
  let c2_i32_37 : BitVec 32 := 2#32
  let c0_i32_39 : BitVec 32 := 0#32
  ![v11.toNat, 0, 2, 0]
def k0_off26 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_42 : BitVec 32 := 0#32
  let c3_i32_41 : BitVec 32 := 3#32
  let c0_i32_43 : BitVec 32 := 0#32
  ![v11.toNat, 0, 3, 0]
def k0_off27 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_46 : BitVec 32 := 0#32
  let c4_i32_45 : BitVec 32 := 4#32
  let c0_i32_47 : BitVec 32 := 0#32
  ![v11.toNat, 0, 4, 0]
def k0_off28 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_50 : BitVec 32 := 0#32
  let c5_i32_49 : BitVec 32 := 5#32
  let c0_i32_51 : BitVec 32 := 0#32
  ![v11.toNat, 0, 5, 0]
def k0_off29 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_54 : BitVec 32 := 0#32
  let c6_i32_53 : BitVec 32 := 6#32
  let c0_i32_55 : BitVec 32 := 0#32
  ![v11.toNat, 0, 6, 0]
def k0_off30 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_58 : BitVec 32 := 0#32
  let c7_i32_57 : BitVec 32 := 7#32
  let c0_i32_59 : BitVec 32 := 0#32
  ![v11.toNat, 0, 7, 0]
def k0_off31 (i : grid0.Coords) : Fin 4 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v97 : Index := Scalar.indexCast v11
  let c0 : Index := 0#32
  let c0_61 : Index := 0#32
  let c0_62 : Index := 0#32
  ![v97.toNat, 0, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S32x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1152 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S32x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Proof.Words.lean ====
module

public import Idealize.ShloMosaic.Lib.Routing.Ops
public import Idealize.ShloMosaic.Lib.Routing.OpsSet
public import Idealize.ShloMosaic.Lib.Routing.OpsSearch
public import Idealize.ShloMosaic.Lib.Routing.OpsPair
public import Idealize.ShloMosaic.Lib.Pipeline.Value

@[expose] public section

set_option maxRecDepth 16384

/-!
# The integers of the routing

Of each of the 24 classes (pairs of experts) `f c` tokens are routed. A class occupies whole tiles of 512 rows: `pad` rounds up, `ends` is the
running sum, `cls p` the class of row `p`. The lemmas below read the host operations that compute these words.
-/

namespace Cert.Classes

open Idealize.ShloMosaic Idealize.ShloMosaic.Routing Idealize.ShloMosaic.ValueIdx Idealize.ShloMosaic.WordCmp

/-- `n` rounded up to a multiple of 512. -/
def pad (n : ℕ) : ℕ := (n + 511) / 512 * 512
/-- Where class `c` ends: the padded sizes of the classes up to `c`. -/
def ends (f : ℕ → ℕ) (c : ℕ) : ℕ := ((List.range (c + 1)).map fun j => pad (f j)).sum
/-- The class of row `p`: how many classes end at or before it, at most 23. -/
def cls (f : ℕ → ℕ) (p : ℕ) : ℕ := min (Nat.count (fun c => ends f c ≤ p) 24) 23

theorem ends_succ (f : ℕ → ℕ) (c : ℕ) : ends f (c + 1) = ends f c + pad (f (c + 1)) := by
  unfold ends
  rw [List.range_succ, List.map_append, List.sum_append]
  simp

theorem dvd_ends (f : ℕ → ℕ) : ∀ c, 512 ∣ ends f c
  | 0 => ⟨(f 0 + 511) / 512, by simp [ends, pad, Nat.mul_comm]⟩
  | c + 1 => by
    rw [ends_succ]
    exact (dvd_ends f c).add ⟨(f (c + 1) + 511) / 512, by rw [pad, Nat.mul_comm]⟩

theorem ends_mono (f : ℕ → ℕ) {c d : ℕ} (h : c ≤ d) : ends f c ≤ ends f d := by
  induction d, h using Nat.le_induction with
  | base => exact le_refl _
  | succ d _ ih => rw [ends_succ]; omega

/-- A class ends between the sum of the sizes and that sum and 511 more for each class. -/
theorem ends_between (f : ℕ → ℕ) : ∀ c, ((List.range (c + 1)).map f).sum ≤ ends f c ∧ ends f c ≤ ((List.range (c + 1)).map f).sum + 511 * (c + 1)
  | 0 => by simp only [ends, List.range_succ, List.range_zero, List.nil_append, List.map_cons, List.map_nil, List.sum_cons, List.sum_nil, pad]; omega
  | c + 1 => by
    have ih := ends_between f c
    rw [ends_succ, List.range_succ, List.map_append, List.sum_append]
    simp only [List.map_cons, List.map_nil, List.sum_cons, List.sum_nil, Nat.add_zero]
    have : f (c + 1) ≤ pad (f (c + 1)) ∧ pad (f (c + 1)) ≤ f (c + 1) + 511 := by unfold pad; omega
    omega

/-- A row and the first row of its tile are of the same class, since classes end where tiles do. -/
theorem cls_tile (f : ℕ → ℕ) (p : ℕ) : cls f (512 * (p / 512)) = cls f p := by
  unfold cls
  have : (fun c => ends f c ≤ 512 * (p / 512)) = fun c => ends f c ≤ p := by
    funext c
    obtain ⟨k, hk⟩ := dvd_ends f c
    rw [hk]
    exact propext ⟨fun h => by omega, fun h => by omega⟩
  simp only [this]

theorem cls_lt (f : ℕ → ℕ) (p : ℕ) : cls f p < 24 := by unfold cls; omega

/-! ## Words -/

theorem minsi_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (by simpa using h), Nat.min_eq_left (by omega)]
  · rw [if_neg (by simpa using h), Nat.min_eq_right (by omega)]

/-- An index that is not negative is not wrapped. -/
theorem wrap_ap {n a : ℕ} (x : IVec (shape1 n) 32) (k : BitVec 32) (hb : shape0.BroadcastsInDim (shape1 n) (![] : Fin 0 → Fin (shape1 n).rank)) (i : Fin n)
    (hx : x (ix1 i) = BitVec.ofNat 32 a) (ha : a < 2 ^ 31) :
    select (cmpi .slt x (broadcastInDim (shape1 n) ![] hb (constantI shape0 32 0#32))) (addi x (broadcastInDim (shape1 n) ![] hb (constantI shape0 32 k))) x (ix1 i)
      = BitVec.ofNat 32 a := by
  rw [select_at, cmpi_at, bc0, constantI_at, hx]
  exact wrap_of_lt _ _ (by rw [BitVec.toNat_ofNat]; omega)

/-- The number of classes that end at or before a row, at most 23. -/
theorem class_ap {n : ℕ} (A B : IVec (shape2 n 24) 32) (hw : 1 < 32) (h : (shape2 n 24).ReducesTo [1] (shape1 n)) (hu : 0 < shape0.numel)
    (hb : shape0.BroadcastsInDim (shape1 n) (![] : Fin 0 → Fin (shape1 n).rank)) (f : ℕ → ℕ) (i : Fin n) {p : ℕ} (hp : p < 2 ^ 31)
    (hf : ends f 23 < 2 ^ 31) (hA : ∀ q : Fin 24, A (ix2 i q) = BitVec.ofNat 32 p) (hB : ∀ q : Fin 24, B (ix2 i q) = BitVec.ofNat 32 (ends f q.val)) :
    minsi (Host.reduce IntOp.addi (extui 32 (cmpi .sge A B) hw) (constantI shape0 32 0#32) h hu) (broadcastInDim (shape1 n) ![] hb (constantI shape0 32 23#32)) (ix1 i)
      = BitVec.ofNat 32 (cls f p) := by
  show IntOp.minsi _ _ = _
  rw [bc0, constantI_at, reduce_count (by norm_num) (cmpi .sge A B) hw h hu i (fun c => ends f c ≤ p) fun q => ?_]
  · exact minsi_word (lt_of_le_of_lt (Nat.count_le ..) (by norm_num)) (by norm_num)
  · have hq : ends f q.val ≤ ends f 23 := ends_mono f (by omega)
    have ep : (BitVec.ofNat 32 p).toNat = p := by rw [BitVec.toNat_ofNat]; omega
    have eq : (BitVec.ofNat 32 (ends f q.val)).toNat = ends f q.val := by rw [BitVec.toNat_ofNat]; omega
    rw [cmpi_at, hA, hB, StableHlo.Predicate.sge_iff_toNat (by omega) (by omega), ep, eq]

/-- A vector divided by 512, rounded down, as `floor_divide` prints. -/
theorem floordiv_ap {s : Shape} (hb : shape0.BroadcastsInDim s (![] : Fin 0 → Fin s.rank)) (x : IVec s 32) (d : IVec shape0 32) (i : s.Idx) {a : ℕ}
    (hx : x i = BitVec.ofNat 32 a) (ha : a < 2 ^ 31) (hd : d ix0 = 512#32) : pyDiv hb x d i = BitVec.ofNat 32 (a / 512) :=
  pyDiv_ap hb x d i hx (hd.trans rfl) ha (by norm_num) (by norm_num)

end Cert.Classes

end
-- ==== Proof.Table.lean ====
module

public import proofs.«01_k».proof.Proof.Gen.ExpertsIdeal.Launch
public import proofs.«01_k».proof.Proof.Words

@[expose] public section

set_option maxRecDepth 16384

/-!
# The table that the host hands the kernel

Word 0 is the number of tiles in use. Words 1 … 152 name each tile's first expert and words 153 … 304 its second one; a tile after the last one in use
repeats the last one's experts.
-/

namespace Cert.ExpertsIdeal.Table

open Idealize.ShloMosaic Idealize.ShloMosaic.TcCoe Idealize.ShloMosaic.Tactic Idealize.ShloMosaic.ValueIdx
open Idealize.ShloMosaic.Routing Idealize.ShloMosaic.WordCmp
open Cert.Classes Cert.ExpertsIdeal.Gen

variable {F : FTy → Type} [FloatOps F]

/-- The host's operations before the kernel is launched. -/
noncomputable abbrev opss : List (List (HloOp τ sig (Elt F))) := [hostOps0, hostOps0_1, hostOps0_2, hostOps0_3, hostOps0_4, hostOps0_5, hostOps0_6]

/-- The vector `C` holds the naturals `f 0 … f 23`. -/
def Holds (f : ℕ → ℕ) (C : IVec S24 32) : Prop := ∀ i : Fin 24, C (ix1 i) = BitVec.ofNat 32 (f i.val)

/-- What the table holds when `f c` rows are of class `c`. -/
structure TableOf (f : ℕ → ℕ) (T : IVec S305 32) : Prop where
  head : T (ix1 (0 : Fin 305)) = BitVec.ofNat 32 (ends f 23 / 512)
  lo : ∀ i : Fin 152, T (ix1 (⟨1 + i.val, by omega⟩ : Fin 305)) = lit0 ⟨cls f (512 * min i.val (ends f 23 / 512 - 1)), cls_lt _ _⟩
  hi : ∀ i : Fin 152, T (ix1 (⟨153 + i.val, by omega⟩ : Fin 305)) = lit1 ⟨cls f (512 * min i.val (ends f 23 / 512 - 1)), cls_lt _ _⟩

/-! ## One stretch of host operations at a time -/

section
variable (X : Valuation τ sig (Elt F))

/-- The class of each tile, from where classes end and the number of tiles in use. -/
noncomputable def tileCls (E : IVec S24 32) (n : IVec S_ 32) : IVec S152 32 :=
  let k : IVec S152 32 := minsi (iotaInDim S152 32 0) (broadcastInDim S152 ![] bcast_S_S152 (subi n (constantI S_ 32 1#32)))
  Host.gather gather_S152_S152x1_S152_n_0_n_n_0_1_1
    (minsi
      (Host.reduce IntOp.addi
        (extui 32 (cmpi .sge
            (broadcastInDim S152x24 ![0, 1] bcast_S152x1_S152x24_0_1
              (muli (broadcastInDim S152x1 ![0] bcast_S152_S152x1_0 (iotaInDim S152 32 0)) (broadcastInDim S152x1 ![] bcast_S_S152x1 (constantI S_ 32 512#32))))
            (broadcastInDim S152x24 ![0, 1] bcast_S1x24_S152x24_0_1 (broadcastInDim S1x24 ![1] bcast_S24_S1x24_1 E)))
          natLt_1_32)
        (constantI S_ 32 0#32) reducesTo_S152x24_S152_d1 h_S_)
      (broadcastInDim S152 ![] bcast_S_S152 (constantI S_ 32 23#32)))
    (broadcastInDim S152x1 ![0] bcast_S152_S152x1_0
      (select (cmpi .slt k (broadcastInDim S152 ![] bcast_S_S152 (constantI S_ 32 0#32)))
        (addi k (broadcastInDim S152 ![] bcast_S_S152 (constantI S_ 32 152#32))) k))

/-- An entry of a table of the 24 classes for each tile's class. -/
noncomputable def lookup (tab : IVec S24 32) (k : IVec S152 32) : IVec S152 32 :=
  Host.gather gather_S24_S152x1_S152_n_0_n_n_0_1_1 tab
    (broadcastInDim S152x1 ![0] bcast_S152_S152x1_0
      (select (cmpi .slt k (broadcastInDim S152 ![] bcast_S_S152 (constantI S_ 32 0#32)))
        (addi k (broadcastInDim S152 ![] bcast_S_S152 (constantI S_ 32 24#32))) k))

theorem tileCls_ap {f : ℕ → ℕ} {n : ℕ} (E : IVec S24 32) (nt : IVec S_ 32) (hE : ∀ q : Fin 24, E (ix1 q) = BitVec.ofNat 32 (ends f q.val))
    (hn : nt ValueIdx.ix0 = BitVec.ofNat 32 n) (hn1 : 1 ≤ n) (hn2 : n < 2 ^ 31) (hf : ends f 23 < 2 ^ 31) (i : Fin 152) :
    tileCls E nt (ix1 i) = BitVec.ofNat 32 (cls f (512 * min i.val (n - 1))) := by
  have hk : min i.val (n - 1) < 152 := by omega
  unfold tileCls
  dsimp only
  refine (gather_take1 _ rfl rfl rfl rfl _ _ i ⟨min i.val (n - 1), hk⟩ ?_ (by norm_num)).trans ?_
  · rw [bcCol]
    refine wrap_ap _ _ _ i ?_ (by omega)
    show IntOp.minsi _ _ = _
    rw [bc0, iota1_ap, subi_ap, hn, constantI_at, show (1#32 : BitVec 32) = BitVec.ofNat 32 1 from rfl, ofNat32_sub hn1]
    exact minsi_word (by omega) (by omega)
  · refine class_ap _ _ _ _ _ _ f _ (by omega) hf (fun q => ?_) fun q => ?_
    · refine (broadcastInDim_apply _ _ _ _ (ix2 (⟨min i.val (n - 1), hk⟩ : Fin 152) (0 : Fin 1)) fun a => ?_).trans ?_
      · match a with
        | ⟨0, _⟩ => rfl
        | ⟨1, _⟩ => rfl
      · rw [muli_ap, bcCol, bc0, iota1_ap, constantI_at, show (512#32 : BitVec 32) = BitVec.ofNat 32 512 from rfl, ← BitVec.ofNat_mul, Nat.mul_comm]
    · rw [bcCols]; exact hE q

theorem lookup_ap (tab : IVec S24 32) (k : IVec S152 32) (i : Fin 152) (b : Fin 24) (hk : k (ix1 i) = BitVec.ofNat 32 b.val) : lookup tab k (ix1 i) = tab (ix1 b) := by
  unfold lookup
  refine gather_take1 _ rfl rfl rfl rfl _ _ i b ?_ (by norm_num)
  rw [bcCol]
  exact wrap_ap _ _ _ i hk (by omega)

set_option maxHeartbeats 1000000 in
theorem st6 : StableHlo.after hostOps0_6 X (Proc.devRef .tc main_v50) =
    concatenate S305 0 [⟨S1, broadcastInDim S1 ![] bcast_S_S1 (X (Proc.devRef .tc main_v11))⟩,
      ⟨S152, lookup (X (Proc.devRef .tc main_c)) (tileCls (X (Proc.devRef .tc main_v7)) (X (Proc.devRef .tc main_v11)))⟩,
      ⟨S152, lookup (X (Proc.devRef .tc main_c_0)) (tileCls (X (Proc.devRef .tc main_v7)) (X (Proc.devRef .tc main_v11)))⟩] concatenates_S1_S152_S152_S305_d0 := by
  have h1 : StableHlo.after (hostOps0_6.take 49) X (Proc.devRef .tc main_v35) = broadcastInDim S1 ![] bcast_S_S1 (X (Proc.devRef .tc main_v11)) := by
    unfold hostOps0_6; simp only [List.take_succ_cons, List.take_zero]; after_results_simp; try rfl
  have h2 : StableHlo.after (hostOps0_6.take 49) X (Proc.devRef .tc main_v42) =
      lookup (X (Proc.devRef .tc main_c)) (tileCls (X (Proc.devRef .tc main_v7)) (X (Proc.devRef .tc main_v11))) := by
    unfold hostOps0_6; simp only [List.take_succ_cons, List.take_zero]; after_results_simp; rfl
  have h3 : StableHlo.after (hostOps0_6.take 49) X (Proc.devRef .tc main_v49) =
      lookup (X (Proc.devRef .tc main_c_0)) (tileCls (X (Proc.devRef .tc main_v7)) (X (Proc.devRef .tc main_v11))) := by
    unfold hostOps0_6; simp only [List.take_succ_cons, List.take_zero]; after_results_simp; rfl
  rw [← h1, ← h2, ← h3]
  unfold hostOps0_6
  after_results_simp
  rfl

theorem st5 : StableHlo.after hostOps0_5 X (Proc.devRef .tc main_v11) = pyDiv0 (X (Proc.devRef .tc main_v10)) (X (Proc.devRef .tc main_c_5)) := by
  unfold hostOps0_5
  simp only [StableHlo.TRef.binary, StableHlo.TRef.nullary, StableHlo.TRef.ternary, StableHlo.TRef.unary, StableHlo.TRef.toBuf, StableHlo.TRef.ofBuf, cast_eq]
  after_results_simp
  rfl
theorem st4 : StableHlo.after hostOps0_4 X (Proc.devRef .tc main_v10) = shapeCast S_ (extractStridedSlice S1 ![23] (X (Proc.devRef .tc main_v7)) slices_S24_S1_23) shapeCasts_S1_S_ := by
  unfold hostOps0_4
  after_results_simp
  try rfl
theorem st3 : StableHlo.after hostOps0_3 X (Proc.devRef .tc main_v7) =
    Host.reduceWindow IntOp.addi ![24] ![1] ![23] ![0] (X (Proc.devRef .tc main_v6)) (broadcastInDim S_ ![] bcast_S_S_ (constantI S_ 32 0#32)) reduceWindows_S24_S24_w24s1p23_0 h_S_ := by
  unfold hostOps0_3
  simp only [StableHlo.TRef.binary, StableHlo.TRef.nullary, StableHlo.TRef.ternary, StableHlo.TRef.unary, StableHlo.TRef.toBuf, StableHlo.TRef.ofBuf, cast_eq]
  after_results_simp
  try rfl
theorem st2 : StableHlo.after hostOps0_2 X (Proc.devRef .tc main_v6) = muli (X (Proc.devRef .tc main_v4)) (broadcastInDim S24 ![] bcast_S_S24 (constantI S_ 32 512#32)) := by
  unfold hostOps0_2
  after_results_simp
  try rfl
theorem st1 : StableHlo.after hostOps0_1 X (Proc.devRef .tc main_v4) = pyDiv bcast_S_S24 (X (Proc.devRef .tc main_v3)) (X (Proc.devRef .tc main_c_3)) := by
  unfold hostOps0_1
  simp only [StableHlo.TRef.binary, StableHlo.TRef.nullary, StableHlo.TRef.ternary, StableHlo.TRef.unary, StableHlo.TRef.toBuf, StableHlo.TRef.ofBuf, cast_eq]
  after_results_simp
  rfl
theorem st0 : StableHlo.after hostOps0 X (Proc.devRef .tc main_v3) =
    subi (addi (X (Proc.devRef .tc main_arg0)) (broadcastInDim S24 ![] bcast_S_S24 (constantI S_ 32 512#32))) (broadcastInDim S24 ![] bcast_S_S24 (constantI S_ 32 1#32)) := by
  unfold hostOps0
  after_results_simp
  try rfl
theorem st0_c3 : StableHlo.after hostOps0 X (Proc.devRef .tc main_c_3) = constantI S_ 32 512#32 := by
  unfold hostOps0
  after_results_simp
  try rfl
theorem st4_c5 : StableHlo.after hostOps0_4 X (Proc.devRef .tc main_c_5) = constantI S_ 32 512#32 := by
  unfold hostOps0_4
  after_results_simp
  try rfl
set_option backward.isDefEq.respectTransparency false in
theorem st0_c : StableHlo.after hostOps0 X (Proc.devRef .tc main_c) = fun i => lit0 (S24.rowMajor i) := by
  unfold hostOps0
  after_results_simp
  rfl
set_option backward.isDefEq.respectTransparency false in
theorem st0_c_0 : StableHlo.after hostOps0 X (Proc.devRef .tc main_c_0) = fun i => lit1 (S24.rowMajor i) := by
  unfold hostOps0
  after_results_simp
  rfl

/-! ## The whole line -/

theorem after_opss : StableHlo.after (opss (F := F)).flatten X = StableHlo.after hostOps0_6 (StableHlo.after hostOps0_5 (StableHlo.after hostOps0_4
    (StableHlo.after hostOps0_3 (StableHlo.after hostOps0_2 (StableHlo.after hostOps0_1 (StableHlo.after hostOps0 X)))))) := rfl

/-- Where classes end, when the first argument holds the classes' counts. -/
theorem ends_ap {f : ℕ → ℕ} (hf : ∀ c < 24, f c ≤ 65536) (hC : Holds f (X (Proc.devRef .tc main_arg0))) (q : Fin 24) :
    StableHlo.after hostOps0_3 (StableHlo.after hostOps0_2 (StableHlo.after hostOps0_1 (StableHlo.after hostOps0 X))) (Proc.devRef .tc main_v7) (ix1 q)
      = BitVec.ofNat 32 (ends f q.val) := by
  rw [st3]
  refine cumsum1 (Nm1 := 23) rfl _ (fun j => pad (f j)) (fun i => ?_) _ rfl _ _ q
  have hi := hf i.val i.isLt
  rw [st2, muli_ap, bc0, st1, floordiv_ap bcast_S_S24 _ _ (ix1 i) (a := f i.val + 511) ?_ (by omega) ?_]
  · rw [constantI_at, show (512#32 : BitVec 32) = BitVec.ofNat 32 512 from rfl, ← BitVec.ofNat_mul]; rfl
  · rw [st0, subi_ap, addi_ap, bc0, bc0, constantI_at, constantI_at, hC i, show (512#32 : BitVec 32) = BitVec.ofNat 32 512 from rfl, ← BitVec.ofNat_add,
      show (1#32 : BitVec 32) = BitVec.ofNat 32 1 from rfl, ofNat32_sub (by omega)]
    rfl
  · rw [st0_c3]; rfl

/-! The stretches leave alone what they do not write. -/

theorem keep4_v7 : StableHlo.after hostOps0_4 X (Proc.devRef .tc main_v7) = X (Proc.devRef .tc main_v7) := by
  unfold hostOps0_4
  after_results_simp
theorem keep5_v7 : StableHlo.after hostOps0_5 X (Proc.devRef .tc main_v7) = X (Proc.devRef .tc main_v7) := by
  unfold hostOps0_5
  simp only [StableHlo.TRef.binary, StableHlo.TRef.nullary, StableHlo.TRef.ternary, StableHlo.TRef.unary, StableHlo.TRef.toBuf, StableHlo.TRef.ofBuf, cast_eq]
  after_results_simp
theorem keep1_c : StableHlo.after hostOps0_1 X (Proc.devRef .tc main_c) = X (Proc.devRef .tc main_c) := by
  unfold hostOps0_1
  simp only [StableHlo.TRef.binary, StableHlo.TRef.nullary, StableHlo.TRef.ternary, StableHlo.TRef.unary, StableHlo.TRef.toBuf, StableHlo.TRef.ofBuf, cast_eq]
  after_results_simp
theorem keep2_c : StableHlo.after hostOps0_2 X (Proc.devRef .tc main_c) = X (Proc.devRef .tc main_c) := by
  unfold hostOps0_2
  after_results_simp
theorem keep3_c : StableHlo.after hostOps0_3 X (Proc.devRef .tc main_c) = X (Proc.devRef .tc main_c) := by
  unfold hostOps0_3
  simp only [StableHlo.TRef.binary, StableHlo.TRef.nullary, StableHlo.TRef.ternary, StableHlo.TRef.unary, StableHlo.TRef.toBuf, StableHlo.TRef.ofBuf, cast_eq]
  after_results_simp
theorem keep4_c : StableHlo.after hostOps0_4 X (Proc.devRef .tc main_c) = X (Proc.devRef .tc main_c) := by
  unfold hostOps0_4
  after_results_simp
theorem keep5_c : StableHlo.after hostOps0_5 X (Proc.devRef .tc main_c) = X (Proc.devRef .tc main_c) := by
  unfold hostOps0_5
  simp only [StableHlo.TRef.binary, StableHlo.TRef.nullary, StableHlo.TRef.ternary, StableHlo.TRef.unary, StableHlo.TRef.toBuf, StableHlo.TRef.ofBuf, cast_eq]
  after_results_simp
theorem keep1_c_0 : StableHlo.after hostOps0_1 X (Proc.devRef .tc main_c_0) = X (Proc.devRef .tc main_c_0) := by
  unfold hostOps0_1
  simp only [StableHlo.TRef.binary, StableHlo.TRef.nullary, StableHlo.TRef.ternary, StableHlo.TRef.unary, StableHlo.TRef.toBuf, StableHlo.TRef.ofBuf, cast_eq]
  after_results_simp
theorem keep2_c_0 : StableHlo.after hostOps0_2 X (Proc.devRef .tc main_c_0) = X (Proc.devRef .tc main_c_0) := by
  unfold hostOps0_2
  after_results_simp
theorem keep3_c_0 : StableHlo.after hostOps0_3 X (Proc.devRef .tc main_c_0) = X (Proc.devRef .tc main_c_0) := by
  unfold hostOps0_3
  simp only [StableHlo.TRef.binary, StableHlo.TRef.nullary, StableHlo.TRef.ternary, StableHlo.TRef.unary, StableHlo.TRef.toBuf, StableHlo.TRef.ofBuf, cast_eq]
  after_results_simp
theorem keep4_c_0 : StableHlo.after hostOps0_4 X (Proc.devRef .tc main_c_0) = X (Proc.devRef .tc main_c_0) := by
  unfold hostOps0_4
  after_results_simp
theorem keep5_c_0 : StableHlo.after hostOps0_5 X (Proc.devRef .tc main_c_0) = X (Proc.devRef .tc main_c_0) := by
  unfold hostOps0_5
  simp only [StableHlo.TRef.binary, StableHlo.TRef.nullary, StableHlo.TRef.ternary, StableHlo.TRef.unary, StableHlo.TRef.toBuf, StableHlo.TRef.ofBuf, cast_eq]
  after_results_simp

/-- The three pieces of the table. -/
theorem pieces {α : Type} (a : S1.Idx → α) (b c : S152.Idx → α) :
    concatenate S305 0 [⟨S1, a⟩, ⟨S152, b⟩, ⟨S152, c⟩] concatenates_S1_S152_S152_S305_d0 (ix1 (0 : Fin 305)) = a (ix1 (0 : Fin 1))
    ∧ (∀ i : Fin 152, concatenate S305 0 [⟨S1, a⟩, ⟨S152, b⟩, ⟨S152, c⟩] concatenates_S1_S152_S152_S305_d0 (ix1 (⟨1 + i.val, by omega⟩ : Fin 305)) = b (ix1 i))
    ∧ ∀ i : Fin 152, concatenate S305 0 [⟨S1, a⟩, ⟨S152, b⟩, ⟨S152, c⟩] concatenates_S1_S152_S152_S305_d0 (ix1 (⟨153 + i.val, by omega⟩ : Fin 305)) = c (ix1 i) :=
  ⟨concatenate_apply_piece (t := S305) 0 [⟨S1, a⟩, ⟨S152, b⟩, ⟨S152, c⟩] _ _ 0 (by simp) S1 a rfl rfl 0 rfl (ix1 (0 : Fin 1)) (fun d hd => absurd (Subsingleton.elim (α := Fin 1) _ _) hd) rfl,
    fun i => concatenate_apply_piece (t := S305) 0 [⟨S1, a⟩, ⟨S152, b⟩, ⟨S152, c⟩] _ _ 1 (by simp) S152 b rfl rfl 1 rfl (ix1 i) (fun d hd => absurd (Subsingleton.elim (α := Fin 1) _ _) hd) rfl,
    fun i => concatenate_apply_piece (t := S305) 0 [⟨S1, a⟩, ⟨S152, b⟩, ⟨S152, c⟩] _ _ 2 (by simp) S152 c rfl rfl 153 rfl (ix1 i) (fun d hd => absurd (Subsingleton.elim (α := Fin 1) _ _) hd) rfl⟩

theorem rowMajor_ix1 (b : Fin 24) : (S24.rowMajor (ix1 b)).val = b.val := by
  rw [Shape.rowMajor_val_one]

theorem scalar_of_vec {α : Type} (y : S1.Idx → α) (h : S1.ShapeCasts S_) : shapeCast S_ y h ValueIdx.ix0 = y (ix1 (0 : Fin 1)) := by
  unfold shapeCast
  exact congrArg y (funext fun a => Subsingleton.elim (α := Fin (S1.size a)) (h := by match a with | ⟨0, _⟩ => exact inferInstanceAs (Subsingleton (Fin 1))) _ _)

set_option maxHeartbeats 1000000 in
theorem table {f : ℕ → ℕ} (hf : ∀ c < 24, f c ≤ 65536) (hs : ((List.range 24).map f).sum = 65536) (hC : Holds f (X (Proc.devRef .tc main_arg0))) :
    TableOf f (StableHlo.after (opss (F := F)).flatten X (Proc.devRef .tc main_v50)) := by
  have hb := ends_between f 23
  rw [hs] at hb
  have hd : 1 ≤ ends f 23 / 512 := by omega
  rw [after_opss, st6]
  set X3 := StableHlo.after hostOps0_3 (StableHlo.after hostOps0_2 (StableHlo.after hostOps0_1 (StableHlo.after hostOps0 X))) with hX3
  have h7 : ∀ q : Fin 24, X3 (Proc.devRef .tc main_v7) (ix1 q) = BitVec.ofNat 32 (ends f q.val) := ends_ap X hf hC
  have k7 : StableHlo.after hostOps0_5 (StableHlo.after hostOps0_4 X3) (Proc.devRef .tc main_v7) = X3 (Proc.devRef .tc main_v7) := by
    rw [keep5_v7, keep4_v7]
  have kc : StableHlo.after hostOps0_5 (StableHlo.after hostOps0_4 X3) (Proc.devRef .tc main_c) = fun i => lit0 (S24.rowMajor i) := by
    rw [keep5_c, keep4_c, hX3, keep3_c, keep2_c, keep1_c, st0_c]
  have kc0 : StableHlo.after hostOps0_5 (StableHlo.after hostOps0_4 X3) (Proc.devRef .tc main_c_0) = fun i => lit1 (S24.rowMajor i) := by
    rw [keep5_c_0, keep4_c_0, hX3, keep3_c_0, keep2_c_0, keep1_c_0, st0_c_0]
  have h11 : StableHlo.after hostOps0_5 (StableHlo.after hostOps0_4 X3) (Proc.devRef .tc main_v11) ValueIdx.ix0 = BitVec.ofNat 32 (ends f 23 / 512) := by
    rw [st5]
    refine pyDiv0_ap _ _ ?_ ?_ (by omega) (by norm_num) (by norm_num)
    · rw [st4, scalar_of_vec, slice1 23 _ _ (0 : Fin 1) (by norm_num)]
      exact h7 23
    · rw [st4_c5]; rfl
  have hcls : ∀ i : Fin 152, _ := tileCls_ap _ _ (k7 ▸ h7) h11 hd (by omega) (by omega)
  rw [kc, kc0]
  refine ⟨?_, fun i => ?_, fun i => ?_⟩
  · refine (pieces _ _ _).1.trans ?_
    rw [bc0]; exact h11
  · refine ((pieces _ _ _).2.1 i).trans ?_
    rw [lookup_ap _ _ i ⟨_, cls_lt f _⟩ (hcls i)]
    exact congrArg lit0 (Fin.ext (rowMajor_ix1 ⟨_, cls_lt f _⟩))
  · refine ((pieces _ _ _).2.2 i).trans ?_
    rw [lookup_ap _ _ i ⟨_, cls_lt f _⟩ (hcls i)]
    exact congrArg lit1 (Fin.ext (rowMajor_ix1 ⟨_, cls_lt f _⟩))
end

end Cert.ExpertsIdeal.Table

end
-- ==== Proof.Body.lean ====
module

public import proofs.«01_k».proof.Proof.Table
public import proofs.«01_k».proof.Proof.Gen.ExpertsIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

/-!
# One step of the experts' kernel

A step either computes its tile (`runA`) or writes zeros (`runB`), as the first word of the table says.
-/

noncomputable section

namespace Cert.ExpertsIdeal.Body

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table, in the scalar memory. -/
abbrev tbM0_0 : Memref sig .tc .smem S305 .i32 := Memref.whole main_v50
/-- The output's staging buffer. -/
abbrev VO0_7 : View sig .tc .vmem S512x1024 .f32 := (Memref.whole cc0_stg7_0 : Memref sig .tc .vmem S512x1024 .f32).view

set_option backward.proofsInPublic true in
set_option maxHeartbeats 8000000 in
/-- A tile in use: from the inputs at their blocks and the table the body runs to its end, having written the pieces `out0`. -/
noncomputable def runA (c : Dev nD) (i : grid0.Coords) (arg2 : Memref sig .tc .vmem S512x1152 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S512x1024 .f32) (harg9 : arg9.IsWhole) (T0 : (S305.Idx → Elt F .i32))
     (x0 : (S512x1152.Idx → Elt F .f32)) (x1 : (S1x1024x512.Idx → Elt F .f32)) (x2 : (S1x1024x512.Idx → Elt F .f32)) (x3 : (S1x512x1024.Idx → Elt F .f32)) (x4 : (S1x1024x512.Idx → Elt F .f32)) (x5 : (S1x1024x512.Idx → Elt F .f32)) (x6 : (S1x512x1024.Idx → Elt F .f32)) (k0_h1 : k0_cond1 i (View.readAt (Elt F) (tbM0_0).view (Rect.unit (s := S305) ![0] S1.size inb_S305_S1_0).toLoadRect T0 (Shape.Idx.first (numel1_S1.symm ▸ Nat.one_pos))) = 1#1) (k0_h2 : ¬(k0_cond2 i (View.readAt (Elt F) (tbM0_0).view (Rect.unit (s := S305) ![0] S1.size inb_S305_S1_0).toLoadRect T0 (Shape.Idx.first (numel1_S1.symm ▸ Nat.one_pos))) = 1#1)) :
    { out0 : List (View.Piece (Elt F) S512x1024 .f32) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (tbM0_0.view.loc (c : Thread nD τ) ↦{fullShare.right} T0)
          ∗ (∃ d, owns (c : Thread nD τ) arg9 fullShare d)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (tbM0_0.view.loc (c : Thread nD τ) ↦{fullShare.right} T0)
              ∗ (∃ f, arg9.view.loc (c : Thread nD τ) ↦[arg9.view.set]{fullShare} arg9.view.writes (Elt F) f out0)) -∗ K ⟨⟩))
          ⊢ wp frame (wpE (defs₀ (F := F)) Variants.none c none) Set.univ (cc0_experts i tbM0_0 (Memref.isWhole_whole _) arg2 harg2 arg3 harg3 arg4 harg4 arg5 harg5 arg6 harg6 arg7 harg7 arg8 harg8 arg9 harg9) K } :=
  ⟨_, fun K => by
    unfold owns
    rw [cc0_experts_eq_skeleton]; unfold cc0_experts_skel
    iintro ⟨H0, H1, H2, H3, H4, H5, H6, HT0, ⟨%d7, %f7, -, HO7⟩, Hk⟩
    have hT0 : tbM0_0.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexists _; iexact HO7⟩

set_option backward.proofsInPublic true in
set_option maxHeartbeats 8000000 in
/-- A tile past the last one in use: the body writes zeros. -/
noncomputable def runB (c : Dev nD) (i : grid0.Coords) (arg2 : Memref sig .tc .vmem S512x1152 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S512x1024 .f32) (harg9 : arg9.IsWhole) (T0 : (S305.Idx → Elt F .i32))
     (x0 : (S512x1152.Idx → Elt F .f32)) (x1 : (S1x1024x512.Idx → Elt F .f32)) (x2 : (S1x1024x512.Idx → Elt F .f32)) (x3 : (S1x512x1024.Idx → Elt F .f32)) (x4 : (S1x1024x512.Idx → Elt F .f32)) (x5 : (S1x1024x512.Idx → Elt F .f32)) (x6 : (S1x512x1024.Idx → Elt F .f32)) (k0_h1 : ¬(k0_cond1 i (View.readAt (Elt F) (tbM0_0).view (Rect.unit (s := S305) ![0] S1.size inb_S305_S1_0).toLoadRect T0 (Shape.Idx.first (numel1_S1.symm ▸ Nat.one_pos))) = 1#1)) (k0_h2 : k0_cond2 i (View.readAt (Elt F) (tbM0_0).view (Rect.unit (s := S305) ![0] S1.size inb_S305_S1_0).toLoadRect T0 (Shape.Idx.first (numel1_S1.symm ▸ Nat.one_pos))) = 1#1) :
    { out0 : List (View.Piece (Elt F) S512x1024 .f32) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (tbM0_0.view.loc (c : Thread nD τ) ↦{fullShare.right} T0)
          ∗ (∃ d, owns (c : Thread nD τ) arg9 fullShare d)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (tbM0_0.view.loc (c : Thread nD τ) ↦{fullShare.right} T0)
              ∗ (∃ f, arg9.view.loc (c : Thread nD τ) ↦[arg9.view.set]{fullShare} arg9.view.writes (Elt F) f out0)) -∗ K ⟨⟩))
          ⊢ wp frame (wpE (defs₀ (F := F)) Variants.none c none) Set.univ (cc0_experts i tbM0_0 (Memref.isWhole_whole _) arg2 harg2 arg3 harg3 arg4 harg4 arg5 harg5 arg6 harg6 arg7 harg7 arg8 harg8 arg9 harg9) K } :=
  ⟨_, fun K => by
    unfold owns
    rw [cc0_experts_eq_skeleton]; unfold cc0_experts_skel
    iintro ⟨H0, H1, H2, H3, H4, H5, H6, HT0, ⟨%d7, %f7, -, HO7⟩, Hk⟩
    have hT0 : tbM0_0.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexists _; iexact HO7⟩

end Cert.ExpertsIdeal.Body

end

end
-- ==== Proof.Step.lean ====
module

public import proofs.«01_k».proof.Proof.Body
public import Idealize.ShloMosaic.Lib.VecWindow
public import Idealize.ShloMosaic.Lib.Pipeline.Value

@[expose] public section

set_option maxRecDepth 16384
set_option Elab.async false

/-!
# What one step writes

A step writes its whole block once: the tile of its rows' two experts (`tile`), or zeros.
-/

noncomputable section

namespace Cert.ExpertsIdeal.Body

open Cert.ExpertsIdeal Cert.ExpertsIdeal.Gen
open Idealize.ShloMosaic
open Idealize.ShloMosaic.TcCoe
open Idealize.ShloMosaic.ValueIdx

variable {F : FTy → Type} [FloatOps F]

/-- The tokens' activations in a block of rows. -/
def xpart (x0 : S512x1152.Idx → Elt F .f32) : S512x1024.Idx → Elt F .f32 :=
  VecWindow.window x0 ![0, 0] S512x1024.size inb_S512x1152_S512x1024_0_0
/-- The rows' weights of their lower expert. -/
def wlo (x0 : S512x1152.Idx → Elt F .f32) : S512x1.Idx → Elt F .f32 :=
  VecWindow.window x0 ![0, 1024] S512x1.size inb_S512x1152_S512x1_0_1024
/-- The rows' weights of their higher expert. -/
def whi (x0 : S512x1152.Idx → Elt F .f32) : S512x1.Idx → Elt F .f32 :=
  VecWindow.window x0 ![0, 1025] S512x1.size inb_S512x1152_S512x1_0_1025

/-- The tile of 512 rows, from the rows and the two experts' matrices. -/
def tile (x0 : S512x1152.Idx → Elt F .f32) (x1 x2 : S1x1024x512.Idx → Elt F .f32) (x3 : S1x512x1024.Idx → Elt F .f32)
    (x4 x5 : S1x1024x512.Idx → Elt F .f32) (x6 : S1x512x1024.Idx → Elt F .f32) : S512x1024.Idx → Elt F .f32 :=
  k0_pay1 (k0_pay3 (xpart x0)) (whi x0) (k0_pay4 (xpart x0) (wlo x0) x1 x2 x3) (k0_pay5 (xpart x0) x4) x5 x6

/-- The whole block. -/
abbrev whole : Rect S512x1024 := Rect.unit (s := S512x1024) ![0, 0] S512x1024.size inb_S512x1024_S512x1024_0_0

/-- One piece that is the whole block makes what it holds what the block holds. -/
theorem canon_whole (w : S512x1024.Idx → Elt F .f32) : View.canon ([⟨whole, w⟩] : List (View.Piece (Elt F) S512x1024 .f32)) = w :=
  View.canon_unit_zero (by decide) _ w

theorem whole_covers (w : S512x1024.Idx → Elt F .f32) (y : S512x1024.Idx) :
    ∃ P ∈ ([⟨whole, w⟩] : List (View.Piece (Elt F) S512x1024 .f32)), y ∈ P.1.set :=
  View.cover_of_tiledL _ S512x1024.size (by sl_kernel_rfl) y

set_option maxHeartbeats 1600000 in
theorem piecesA (c : Dev nD) (i : grid0.Coords) (arg2 : Memref sig .tc .vmem S512x1152 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S512x1024 .f32) (harg9 : arg9.IsWhole) T0 x0 x1 x2 x3 x4 x5 x6 h1 h2 :
    (runA (F := F) c i arg2 harg2 arg3 harg3 arg4 harg4 arg5 harg5 arg6 harg6 arg7 harg7 arg8 harg8 arg9 harg9 T0 x0 x1 x2 x3 x4 x5 x6 h1 h2).1
      = [⟨whole, tile x0 x1 x2 x3 x4 x5 x6⟩] := by
  unfold runA; dsimp only; unfold runA.sl.HO7_1 runA.sl.r_1 runA.sl.r_2 runA.sl.r_3 runA.sl.r_4
  unfold tile xpart wlo whi
  rw [View.readAt_rep_unit arg2.view x0 inb_S512x1152_S512x1024_0_0 rfl inb_S512x1152_S512x1024_0_0,
    View.readAt_rep_unit arg2.view x0 inb_S512x1152_S512x1_0_1024 rfl inb_S512x1152_S512x1_0_1024,
    View.readAt_rep_unit arg2.view x0 inb_S512x1152_S512x1_0_1025 rfl inb_S512x1152_S512x1_0_1025,
    View.readAt_rep_full arg3.view x1, View.readAt_rep_full arg4.view x2, View.readAt_rep_full arg5.view x3,
    View.readAt_rep_full arg6.view x4, View.readAt_rep_full arg7.view x5, View.readAt_rep_full arg8.view x6]

set_option maxHeartbeats 1600000 in
theorem piecesB (c : Dev nD) (i : grid0.Coords) (arg2 : Memref sig .tc .vmem S512x1152 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S512x1024 .f32) (harg9 : arg9.IsWhole) T0 x0 x1 x2 x3 x4 x5 x6 h1 h2 :
    (runB (F := F) c i arg2 harg2 arg3 harg3 arg4 harg4 arg5 harg5 arg6 harg6 arg7 harg7 arg8 harg8 arg9 harg9 T0 x0 x1 x2 x3 x4 x5 x6 h1 h2).1
      = [⟨whole, k0_pay2⟩] := by
  unfold runB; dsimp only; unfold runB.sl.HO7_1
  rfl

/-! ## The two conditions -/

/-- The first word of the table. -/
abbrev word0 (T : IVec S305 32) : BitVec 32 := T (ix1 (n := 305) 0)

/-- Exactly one of the two conditions holds. -/
theorem cond_iff (i : grid0.Coords) (w : BitVec 32) : k0_cond2 i w = 1#1 ↔ ¬ (k0_cond1 i w = 1#1) := by
  unfold k0_cond1 k0_cond2
  simp only [Scalar.cmpi, Scalar.extui, IntOp.cmpi]
  have h : w.sle (BitVec.ofNat 32 (i 0).val) = !(BitVec.ofNat 32 (i 0).val).slt w := by
    rw [BitVec.sle_eq_not_slt]
  rw [h]
  cases (BitVec.ofNat 32 (i 0).val).slt w <;> decide

theorem word_read (T : IVec S305 32) :
    View.readAt (Elt F) tbM0_0.view (Rect.unit (s := S305) ![0] S1.size inb_S305_S1_0).toLoadRect T (Shape.Idx.first (numel1_S1.symm ▸ Nat.one_pos)) = word0 T :=
  congrArg T (funext fun a => by fin_cases a; rfl)

theorem word_at (T : pre0.Contents (Elt F)) :
    T.at 0 (Rect.unit (s := S305) ![0] S1.size inb_S305_S1_0) numel1_S1 = word0 (T 0) :=
  congrArg (T 0) (funext fun a => by fin_cases a; rfl)

theorem word_atD (T : pre0.Contents (Elt F)) : T.atD 0 ![0] = word0 (T 0) := by
  have h : ∀ a, (![0] : Fin 1 → Nat) a + 1 ≤ S305.size a := by decide
  exact (dif_pos h).trans (congrArg (T 0) (funext fun a => by fin_cases a; rfl))

end Cert.ExpertsIdeal.Body

end
-- ==== Proof.Frame.lean ====
module

public import proofs.«01_k».proof.Proof.Step
public import Idealize.ShloMosaic.Lib.Pipeline.Frame

@[expose] public section

set_option maxRecDepth 16384
set_option Elab.async false

/-!
# The experts' kernel over all its steps

The grid of 152 steps is a pipeline whose blocks are chosen by a prefetched table. From a table that keeps the blocks
inside their arrays, the whole program runs to its end, and its output array holds the blocks written step by step.
-/

noncomputable section

namespace Cert.ExpertsIdeal.Body

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What a buffer of core `c` holds when the call begins: what the host operations made of the launch's contents `m`. -/
def V (m : (ℓ : Loc nD τ sig) → Buf (Elt F) ℓ) (c : Dev nD) (b : Ref sig .tc) : Buf (Elt F) ((c.tc : Thread nD τ).loc b) :=
  StableHlo.after (Table.opss (F := F)).flatten (fun b => m (c, b)) b

variable (m : (ℓ : Loc nD τ sig) → Buf (Elt F) ℓ) (a : (p : Fin 1) → (pcfgs (F := F) p).Adm)

/-- The pipeline at its table. -/
abbrev cfgA : Pipeline.Cfg sig Λ₀ := Pipeline.pin (pcfgs (F := F)) a 0
/-- The table. -/
abbrev tab : IVec S305 32 := (a 0).1 (0 : Fin 1)
abbrev crd (t : Fin (cfgA a).N) : grid0.Coords := (cfgA a).grid.coords t

abbrev ms0 (t : Fin (cfgA a).N) : Memref sig .tc .vmem S512x1152 .f32 := spec0_0.stage ((cfgA a).slots t (0 : Fin 8))
abbrev hs0 (t : Fin (cfgA a).N) : (ms0 a t).IsWhole := hstage0_0 (((cfgA a).slots t (0 : Fin 8)).cast nbuf0_0)
abbrev ms1 (t : Fin (cfgA a).N) : Memref sig .tc .vmem S1x1024x512 .f32 := spec0_1.stage ((cfgA a).slots t (1 : Fin 8))
abbrev hs1 (t : Fin (cfgA a).N) : (ms1 a t).IsWhole := hstage0_1 (((cfgA a).slots t (1 : Fin 8)).cast nbuf0_1)
abbrev ms2 (t : Fin (cfgA a).N) : Memref sig .tc .vmem S1x1024x512 .f32 := spec0_2.stage ((cfgA a).slots t (2 : Fin 8))
abbrev hs2 (t : Fin (cfgA a).N) : (ms2 a t).IsWhole := hstage0_2 (((cfgA a).slots t (2 : Fin 8)).cast nbuf0_2)
abbrev ms3 (t : Fin (cfgA a).N) : Memref sig .tc .vmem S1x512x1024 .f32 := spec0_3.stage ((cfgA a).slots t (3 : Fin 8))
abbrev hs3 (t : Fin (cfgA a).N) : (ms3 a t).IsWhole := hstage0_3 (((cfgA a).slots t (3 : Fin 8)).cast nbuf0_3)
abbrev ms4 (t : Fin (cfgA a).N) : Memref sig .tc .vmem S1x1024x512 .f32 := spec0_4.stage ((cfgA a).slots t (4 : Fin 8))
abbrev hs4 (t : Fin (cfgA a).N) : (ms4 a t).IsWhole := hstage0_4 (((cfgA a).slots t (4 : Fin 8)).cast nbuf0_4)
abbrev ms5 (t : Fin (cfgA a).N) : Memref sig .tc .vmem S1x1024x512 .f32 := spec0_5.stage ((cfgA a).slots t (5 : Fin 8))
abbrev hs5 (t : Fin (cfgA a).N) : (ms5 a t).IsWhole := hstage0_5 (((cfgA a).slots t (5 : Fin 8)).cast nbuf0_5)
abbrev ms6 (t : Fin (cfgA a).N) : Memref sig .tc .vmem S1x512x1024 .f32 := spec0_6.stage ((cfgA a).slots t (6 : Fin 8))
abbrev hs6 (t : Fin (cfgA a).N) : (ms6 a t).IsWhole := hstage0_6 (((cfgA a).slots t (6 : Fin 8)).cast nbuf0_6)
abbrev ms7 (t : Fin (cfgA a).N) : Memref sig .tc .vmem S512x1024 .f32 := spec0_7.stage ((cfgA a).slots t (7 : Fin 8))
abbrev hs7 (t : Fin (cfgA a).N) : (ms7 a t).IsWhole := hstage0_7 (((cfgA a).slots t (7 : Fin 8)).cast nbuf0_7)

/-- The block of window `w` at a step, as the array holds it when the call begins. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-- What a step leaves in the output's block. -/
def outblk (c : Dev nD) (t : Fin (cfgA a).N) : S512x1024.Idx → Elt F .f32 :=
  if k0_cond1 (crd a t) (word0 (tab a)) = 1#1 then
    tile (iblk m a c (0 : Fin 8) t) (iblk m a c (1 : Fin 8) t) (iblk m a c (2 : Fin 8) t) (iblk m a c (3 : Fin 8) t)
      (iblk m a c (4 : Fin 8) t) (iblk m a c (5 : Fin 8) t) (iblk m a c (6 : Fin 8) t)
  else k0_pay2

/-- The windows' contents over the steps. -/
def dats (p : Fin 1) (c : Dev nD) : Dat τ (Elt F) Unit ℕ (UR sig nD τ) ℕ (Pipeline.pin (pcfgs (F := F)) a p) c :=
  match p with
  | ⟨0, _⟩ =>
    { A := fun w => V m c (Pipeline.arrRef spec0 w)
      after := fun w t => match w with
        | ⟨0, _⟩ => iblk m a c (0 : Fin 8) t
        | ⟨1, _⟩ => iblk m a c (1 : Fin 8) t
        | ⟨2, _⟩ => iblk m a c (2 : Fin 8) t
        | ⟨3, _⟩ => iblk m a c (3 : Fin 8) t
        | ⟨4, _⟩ => iblk m a c (4 : Fin 8) t
        | ⟨5, _⟩ => iblk m a c (5 : Fin 8) t
        | ⟨6, _⟩ => iblk m a c (6 : Fin 8) t
        | ⟨7, _⟩ => outblk m a c t
      Φ := fun _ => iprop(Pipeline.ΦA spec0 c ∗ Pipeline.ΦT pre0 (a 0).1 c)
      q := fun w => Pipeline.shareOf spec0 w
      owed := fun _ => 0 }
  | ⟨_ + 1, h⟩ => absurd h (Nat.not_lt.2 (Nat.le_add_left _ _))

abbrev dat (c : Dev nD) : Dat τ (Elt F) Unit ℕ (UR sig nD τ) ℕ (cfgA a) c := dats m a 0 c

theorem after_0 (c : Dev nD) (t : Fin (cfgA a).N) : (dat m a c).after (0 : Fin 8) t = iblk m a c (0 : Fin 8) t := rfl
theorem after_1 (c : Dev nD) (t : Fin (cfgA a).N) : (dat m a c).after (1 : Fin 8) t = iblk m a c (1 : Fin 8) t := rfl
theorem after_2 (c : Dev nD) (t : Fin (cfgA a).N) : (dat m a c).after (2 : Fin 8) t = iblk m a c (2 : Fin 8) t := rfl
theorem after_3 (c : Dev nD) (t : Fin (cfgA a).N) : (dat m a c).after (3 : Fin 8) t = iblk m a c (3 : Fin 8) t := rfl
theorem after_4 (c : Dev nD) (t : Fin (cfgA a).N) : (dat m a c).after (4 : Fin 8) t = iblk m a c (4 : Fin 8) t := rfl
theorem after_5 (c : Dev nD) (t : Fin (cfgA a).N) : (dat m a c).after (5 : Fin 8) t = iblk m a c (5 : Fin 8) t := rfl
theorem after_6 (c : Dev nD) (t : Fin (cfgA a).N) : (dat m a c).after (6 : Fin 8) t = iblk m a c (6 : Fin 8) t := rfl
theorem after_7 (c : Dev nD) (t : Fin (cfgA a).N) : (dat m a c).after (7 : Fin 8) t = outblk m a c t := rfl

theorem before_0 (c : Dev nD) (t : Fin (cfgA a).N) (d) : (dat m a c).before (0 : Fin 8) t d = iblk m a c (0 : Fin 8) t :=
  ((dat m a c).before_in_eq_fetched (0 : Fin 8) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dat m a c).before (1 : Fin 8) t d = iblk m a c (1 : Fin 8) t :=
  ((dat m a c).before_in_eq_fetched (1 : Fin 8) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dat m a c).before (2 : Fin 8) t d = iblk m a c (2 : Fin 8) t :=
  ((dat m a c).before_in_eq_fetched (2 : Fin 8) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dat m a c).before (3 : Fin 8) t d = iblk m a c (3 : Fin 8) t :=
  ((dat m a c).before_in_eq_fetched (3 : Fin 8) rfl (fun _ => rfl) (fun _ _ _ => rfl) (fun t => by rw [after_3]; unfold Dat.blockOf iblk; rfl) t d).trans
    (by unfold Dat.fetched Dat.blockOf iblk; rfl)
theorem before_4 (c : Dev nD) (t : Fin (cfgA a).N) (d) : (dat m a c).before (4 : Fin 8) t d = iblk m a c (4 : Fin 8) t :=
  ((dat m a c).before_in_eq_fetched (4 : Fin 8) rfl (fun _ => rfl) (fun _ _ _ => rfl) (fun t => by rw [after_4]; unfold Dat.blockOf iblk; rfl) t d).trans
    (by unfold Dat.fetched Dat.blockOf iblk; rfl)
theorem before_5 (c : Dev nD) (t : Fin (cfgA a).N) (d) : (dat m a c).before (5 : Fin 8) t d = iblk m a c (5 : Fin 8) t :=
  ((dat m a c).before_in_eq_fetched (5 : Fin 8) rfl (fun _ => rfl) (fun _ _ _ => rfl) (fun t => by rw [after_5]; unfold Dat.blockOf iblk; rfl) t d).trans
    (by unfold Dat.fetched Dat.blockOf iblk; rfl)
theorem before_6 (c : Dev nD) (t : Fin (cfgA a).N) (d) : (dat m a c).before (6 : Fin 8) t d = iblk m a c (6 : Fin 8) t :=
  ((dat m a c).before_in_eq_fetched (6 : Fin 8) rfl (fun _ => rfl) (fun _ _ _ => rfl) (fun t => by rw [after_6]; unfold Dat.blockOf iblk; rfl) t d).trans
    (by unfold Dat.fetched Dat.blockOf iblk; rfl)

/-- The output's window is never idle: a step always writes. -/
theorem idle_7 (t : Fin (cfgA a).N) : (cfgA a).idle (7 : Fin 8) ((cfgA a).grid.coords t) = false := by
  show (!(k0_cond1 (crd a t) ((a 0).1.atD 0 ![0]) == 1#1) && !(k0_cond2 (crd a t) ((a 0).1.atD 0 ![0]) == 1#1)) = false
  by_cases h : k0_cond1 (crd a t) ((a 0).1.atD 0 ![0]) = 1#1
  · simp [h]
  · simp [h, (cond_iff _ _).2 h]

theorem tables (c : Dev nD) :
    (Pipeline.ΦT pre0 (a 0).1 c : sProp 𝕄) = iprop(tbM0_0.view.loc (c : Thread nD τ) ↦{fullShare.right} tab a) := by
  unfold Pipeline.ΦT Pipeline.prefHeld
  rw [show (Finset.univ : Finset (Fin pre0.K)) = {(0 : Fin 1)} from by decide, bigSep_singleton]
  rfl

abbrev bodyAt (t : Fin (cfgA a).N) : Prog (TpuEff nD τ sig (Elt F) Λ₀ .tc) PUnit :=
  cc0_experts (crd a t) tbM0_0 (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t)

set_option maxHeartbeats 1600000 in
/-- One step, from its blocks to what it leaves. -/
theorem sound_body (c : Dev nD) (t : Fin (cfgA a).N) :
    iprop((dat m a c).Φ t.castSucc ∗ (dat m a c).owesAt () t.castSucc
        ∗ (∃ d, owns (c : Thread nD τ) (ms0 a t) fullShare ((dat m a c).before (0 : Fin 8) t d))
        ∗ (∃ d, owns (c : Thread nD τ) (ms1 a t) fullShare ((dat m a c).before (1 : Fin 8) t d))
        ∗ (∃ d, owns (c : Thread nD τ) (ms2 a t) fullShare ((dat m a c).before (2 : Fin 8) t d))
        ∗ (∃ d, owns (c : Thread nD τ) (ms3 a t) fullShare ((dat m a c).before (3 : Fin 8) t d))
        ∗ (∃ d, owns (c : Thread nD τ) (ms4 a t) fullShare ((dat m a c).before (4 : Fin 8) t d))
        ∗ (∃ d, owns (c : Thread nD τ) (ms5 a t) fullShare ((dat m a c).before (5 : Fin 8) t d))
        ∗ (∃ d, owns (c : Thread nD τ) (ms6 a t) fullShare ((dat m a c).before (6 : Fin 8) t d))
        ∗ (∃ d, owns (c : Thread nD τ) (ms7 a t) fullShare ((dat m a c).before (7 : Fin 8) t d)))
      ⊢ wp frame (wpE (defs₀ (F := F)) Variants.none c none) Set.univ (bodyAt a t) fun _ =>
          iprop((dat m a c).Φ t.succ ∗ (dat m a c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dat m a c).before w t d))
                  | true => owns (c : Thread nD τ) (((cfgA a).win w).stage ((cfgA a).slots t w)) fullShare ((dat m a c).after w t)
                | false => owns (c : Thread nD τ) (((cfgA a).win w).stage ((cfgA a).slots t w)) fullShare ((dat m a c).after w t)) := by
  rw [bigSep_W0]
  rewrite [idle_7 a t]
  simp only [before_0, before_1, before_2, before_3, before_4, before_5, before_6, after_0, after_1, after_2, after_3, after_4, after_5, after_6, after_7]
  rewrite [show (dat m a c).Φ t.succ = iprop(Pipeline.ΦA spec0 c ∗ Pipeline.ΦT pre0 (a 0).1 c) from rfl,
    show (dat m a c).Φ t.castSucc = iprop(Pipeline.ΦA spec0 c ∗ Pipeline.ΦT pre0 (a 0).1 c) from rfl,
    show (dat m a c).owesAt () t.succ = (dat m a c).owesAt () t.castSucc from rfl, tables]
  iintro ⟨⟨HA, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : k0_cond1 (crd a t) (word0 (tab a)) = 1#1
  · have h1 : k0_cond1 (crd a t) (View.readAt (Elt F) tbM0_0.view (Rect.unit (s := S305) ![0] S1.size inb_S305_S1_0).toLoadRect (tab a) (Shape.Idx.first (numel1_S1.symm ▸ Nat.one_pos))) = 1#1 := by
      rw [word_read]; exact h
    have h2 : ¬(k0_cond2 (crd a t) (View.readAt (Elt F) tbM0_0.view (Rect.unit (s := S305) ![0] S1.size inb_S305_S1_0).toLoadRect (tab a) (Shape.Idx.first (numel1_S1.symm ▸ Nat.one_pos))) = 1#1) := by
      rw [cond_iff]; exact not_not.2 h1
    iapply ((runA c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (tab a) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [H7]; · iexists _; iexact H7
    iintro ⟨H0, H1, H2, H3, H4, H5, H6, HT0, ⟨%e7, H7⟩⟩
    isplitl [HA HT0]
    · isplitl [HA]; · iexact HA
      iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    unfold owns; iexists _; isplitr; swap
    · iexact H7
    · ipureintro
      rw [piecesA, View.read_writes_eq_canon _ _ _ (whole_covers _), canon_whole]
      unfold outblk; rw [if_pos h]
  · have h1 : ¬(k0_cond1 (crd a t) (View.readAt (Elt F) tbM0_0.view (Rect.unit (s := S305) ![0] S1.size inb_S305_S1_0).toLoadRect (tab a) (Shape.Idx.first (numel1_S1.symm ▸ Nat.one_pos))) = 1#1) := by
      rw [word_read]; exact h
    have h2 : k0_cond2 (crd a t) (View.readAt (Elt F) tbM0_0.view (Rect.unit (s := S305) ![0] S1.size inb_S305_S1_0).toLoadRect (tab a) (Shape.Idx.first (numel1_S1.symm ▸ Nat.one_pos))) = 1#1 := by
      rw [cond_iff]; exact h1
    iapply ((runB c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (tab a) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [H7]; · iexists _; iexact H7
    iintro ⟨H0, H1, H2, H3, H4, H5, H6, HT0, ⟨%e7, H7⟩⟩
    isplitl [HA HT0]
    · isplitl [HA]; · iexact HA
      iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    unfold owns; iexists _; isplitr; swap
    · iexact H7
    · ipureintro
      rw [piecesB, View.read_writes_eq_canon _ _ _ (whole_covers _), canon_whole]
      unfold outblk; rw [if_neg h]

/-- The step's obligation to the pipeline. -/
theorem body_obligation (c : Dev nD) : BodyObligation (dat m a c) (defs₀ (F := F)) Variants.none () Set.univ := fun t => by
  rw [bigSep_W0]
  exact sound_body m a c t

end Cert.ExpertsIdeal.Body

end
-- ==== Proof.Blocks.lean ====
module

public import proofs.«01_k».proof.Proof.Frame

@[expose] public section

set_option maxRecDepth 16384
set_option Elab.async false

/-!
# Which blocks a step reads

With the table of the classes' sizes `f` (`TableOf f`), step `i` reads the rows' block `min i (n - 1)` of the `n` tiles
in use, and the matrices of the two experts of that tile's class: all inside their arrays.
-/

noncomputable section

namespace Cert.ExpertsIdeal.Body

open Cert.ExpertsIdeal Cert.ExpertsIdeal.Gen
open Idealize.ShloMosaic
open Idealize.ShloMosaic.TcCoe
open Idealize.ShloMosaic.ValueIdx
open Idealize.ShloMosaic.WordCmp Idealize.ShloMosaic.Routing
open Cert.Classes
open Cert.ExpertsIdeal.Table

variable {F : FTy → Type} [FloatOps F]

/-- How many tiles are in use. -/
def tiles (f : ℕ → ℕ) : ℕ := ends f 23 / 512
/-- The rows' block that step `i` reads. -/
def row (f : ℕ → ℕ) (i : ℕ) : ℕ := min i (tiles f - 1)
/-- The class of that block. -/
def kind (f : ℕ → ℕ) (i : ℕ) : Fin 24 := ⟨cls f (512 * row f i), cls_lt _ _⟩

/-- The sizes of the classes: at most all tokens each, all tokens together. -/
structure Sizes (f : ℕ → ℕ) : Prop where
  le : ∀ c < 24, f c ≤ 65536
  sum : ((List.range 24).map f).sum = 65536

theorem Sizes.tiles_pos {f : ℕ → ℕ} (h : Sizes f) : 1 ≤ tiles f := by
  have := (ends_between f 23).1; rw [h.sum] at this; unfold tiles; omega
theorem Sizes.tiles_le {f : ℕ → ℕ} (h : Sizes f) : tiles f ≤ 151 := by
  have := (ends_between f 23).2; rw [h.sum] at this; unfold tiles; omega

theorem lit0_lt : ∀ q : Fin 24, (lit0 q).toNat < 16 := by decide
theorem lit1_lt : ∀ q : Fin 24, (lit1 q).toNat < 16 := by decide
theorem lit_lt : ∀ q : Fin 24, (lit0 q).toNat < (lit1 q).toNat := by decide

variable {f : ℕ → ℕ} (h : Sizes f) (pf : pre0.Contents (Elt F)) (hT : TableOf f (pf 0))

include h hT

theorem block_0 (i : grid0.Coords) : cc0_transform_0 inb_S305_S1_0 numel1_S1 pf i = ![row f (i 0).val, 0] := by
  have hi : (i 0).val < 152 := (i 0).isLt
  have h1 := h.tiles_pos; have h2 := h.tiles_le
  unfold cc0_transform_0
  dsimp only
  rw [word_at, show word0 (pf 0) = BitVec.ofNat 32 (tiles f) from hT.head]
  change ![(IntOp.minsi (BitVec.ofNat 32 (i 0).val) (BitVec.ofNat 32 (tiles f) - 1#32)).toNat, 0] = _
  rw [show BitVec.ofNat 32 (tiles f) - 1#32 = BitVec.ofNat 32 (tiles f - 1) from ofNat32_sub (by omega), minsi_word (by omega) (by omega), BitVec.toNat_ofNat, Nat.mod_eq_of_lt (by omega)]
  rfl

theorem off_1 (i : grid0.Coords) : k0_off1 i 1#32 = ![1 + (i 0).val] := by
  have hi : (i 0).val < 152 := (i 0).isLt
  unfold k0_off1
  change ![(1#32 + BitVec.ofNat 32 (i 0).val).toNat] = _
  rw [BitVec.toNat_add, BitVec.toNat_ofNat, BitVec.toNat_ofNat]
  congr 1; omega

theorem off_153 (i : grid0.Coords) : k0_off1 i 153#32 = ![153 + (i 0).val] := by
  have hi : (i 0).val < 152 := (i 0).isLt
  unfold k0_off1
  change ![(153#32 + BitVec.ofNat 32 (i 0).val).toNat] = _
  rw [BitVec.toNat_add, BitVec.toNat_ofNat, BitVec.toNat_ofNat]
  congr 1; omega

theorem word_lo (i : grid0.Coords) :
    pf.at 0 (Rect.unit (s := S305) (k0_off1 i 1#32) S1.size (k0_off1_inb i 0)) numel1_S1 = lit0 (kind f (i 0).val) := by
  refine Eq.trans ?_ (hT.lo ⟨(i 0).val, (i 0).isLt⟩)
  refine congrArg (pf 0) (funext fun a => ?_)
  have e := off_1 h pf hT i
  fin_cases a
  refine Fin.ext ?_
  show (k0_off1 i 1#32) 0 + 1 * 0 = 1 + (i 0).val
  rw [e]; rfl

theorem word_hi (i : grid0.Coords) :
    pf.at 0 (Rect.unit (s := S305) (k0_off1 i 153#32) S1.size (k0_off1_inb i 1)) numel1_S1 = lit1 (kind f (i 0).val) := by
  refine Eq.trans ?_ (hT.hi ⟨(i 0).val, (i 0).isLt⟩)
  refine congrArg (pf 0) (funext fun a => ?_)
  have e := off_153 h pf hT i
  fin_cases a
  refine Fin.ext ?_
  show (k0_off1 i 153#32) 0 + 1 * 0 = 153 + (i 0).val
  rw [e]; rfl

theorem block_1 (i : grid0.Coords) : cc0_transform_1 k0_off1_inb numel1_S1 pf i = ![(lit0 (kind f (i 0).val)).toNat, 0, 0] :=
  congrArg (fun w : BitVec 32 => ![w.toNat, 0, 0]) (word_lo h pf hT i)
theorem block_2 (i : grid0.Coords) : cc0_transform_2 k0_off1_inb numel1_S1 pf i = ![(lit0 (kind f (i 0).val)).toNat, 0, 0] :=
  congrArg (fun w : BitVec 32 => ![w.toNat, 0, 0]) (word_lo h pf hT i)
theorem block_3 (i : grid0.Coords) : cc0_transform_3 k0_off1_inb numel1_S1 pf i = ![(lit0 (kind f (i 0).val)).toNat, 0, 0] :=
  congrArg (fun w : BitVec 32 => ![w.toNat, 0, 0]) (word_lo h pf hT i)
theorem block_4 (i : grid0.Coords) : cc0_transform_4 k0_off1_inb numel1_S1 pf i = ![(lit1 (kind f (i 0).val)).toNat, 0, 0] :=
  congrArg (fun w : BitVec 32 => ![w.toNat, 0, 0]) (word_hi h pf hT i)
theorem block_5 (i : grid0.Coords) : cc0_transform_5 k0_off1_inb numel1_S1 pf i = ![(lit1 (kind f (i 0).val)).toNat, 0, 0] :=
  congrArg (fun w : BitVec 32 => ![w.toNat, 0, 0]) (word_hi h pf hT i)
theorem block_6 (i : grid0.Coords) : cc0_transform_6 k0_off1_inb numel1_S1 pf i = ![(lit1 (kind f (i 0).val)).toNat, 0, 0] :=
  congrArg (fun w : BitVec 32 => ![w.toNat, 0, 0]) (word_hi h pf hT i)

/-- A tile computes exactly if it is in use. -/
theorem computes (i : grid0.Coords) : k0_cond1 i (word0 (pf 0)) = 1#1 ↔ (i 0).val < tiles f := by
  have hi : (i 0).val < 152 := (i 0).isLt
  have h2 := h.tiles_le
  rw [show word0 (pf 0) = BitVec.ofNat 32 (tiles f) from hT.head]
  unfold k0_cond1
  simp only [Scalar.cmpi, Scalar.extui, IntOp.cmpi]
  change BitVec.ofBool (BitVec.setWidth 32 (BitVec.ofBool ((BitVec.ofNat 32 (i 0).val).slt (BitVec.ofNat 32 (tiles f)))) != 0#32) = 1#1 ↔ _
  rw [slt_ofNat32 (by omega) (by omega)]
  by_cases hh : (i 0).val < tiles f
  · simp [hh]
  · simp [hh]

omit h hT in
theorem matrix_inb {n r s : ℕ} (hn : n < 16) (A B : Fin 3 → ℕ) (e : A = ![n, 0, 0]) (hA : B = ![1, r, s]) : ∀ b : Fin 3, (A b + 1) * B b ≤ (![16, r, s] : Fin 3 → ℕ) b := by
  subst e hA
  intro b
  fin_cases b
  · show (n + 1) * 1 ≤ 16; omega
  · show (0 + 1) * r ≤ r; omega
  · show (0 + 1) * s ≤ s; omega

/-- The table keeps every block inside its array. -/
theorem ok_table : ok0 pf := by
  have h1 := h.tiles_pos; have h2 := h.tiles_le
  refine ⟨fun i => ⟨?_, .inl rfl⟩, fun i => ⟨matrix_inb (lit0_lt _) _ _ (block_1 h pf hT i) rfl, .inl rfl⟩, fun i => ⟨matrix_inb (lit0_lt _) _ _ (block_2 h pf hT i) rfl, .inl rfl⟩,
    fun i => ⟨matrix_inb (lit0_lt _) _ _ (block_3 h pf hT i) rfl, .inl rfl⟩, fun i => ⟨matrix_inb (lit1_lt _) _ _ (block_4 h pf hT i) rfl, .inl rfl⟩,
    fun i => ⟨matrix_inb (lit1_lt _) _ _ (block_5 h pf hT i) rfl, .inl rfl⟩, fun i => ⟨matrix_inb (lit1_lt _) _ _ (block_6 h pf hT i) rfl, .inl rfl⟩⟩
  rw [block_0 h pf hT i]
  intro b
  have : row f (i 0).val ≤ 150 := by unfold row; omega
  fin_cases b
  · show (row f (i 0).val + 1) * 512 ≤ 77824; omega
  · show (0 + 1) * 1152 ≤ 1152; omega

end Cert.ExpertsIdeal.Body

end
-- ==== Proof.Counts.lean ====
module

public import proofs.«01_k».proof.Proof.Blocks
public import proofs.«01_k».proof.Pre_counts_of_tokens
public import proofs.«01_k».proof.Pre_routed
public import Idealize.ShloMosaic.Lib.ReduceAll

@[expose] public section

set_option maxRecDepth 16384

/-!
# What the preconditions say of the counts

Counts between zero and the number of tokens that add up to the number of tokens are the sizes of 24 classes.
-/

namespace Cert.ExpertsIdeal.Body

open Idealize.ShloMosaic
open Idealize.ShloMosaic.ValueIdx
open Idealize.ShloMosaic.WordCmp Idealize.ShloMosaic.Routing
open Cert.ExpertsIdeal.Table
open StableHlo.Predicate (cmpi_eq_iff sge_iff_toNat sle_iff_toNat)

/-- The counts as naturals. -/
noncomputable def sizes (C : IVec (shape1 24) 32) (c : ℕ) : ℕ := if h : c < 24 then (C (ix1 ⟨c, h⟩)).toNat else 0

theorem sizes_holds (C : IVec (shape1 24) 32) : Holds (sizes C) C := fun i => by
  unfold sizes
  rw [dif_pos i.isLt, BitVec.ofNat_toNat, BitVec.setWidth_eq]

theorem and_bits {a b : BitVec 1} (h : IntOp.andi a b = 1#1) : a = 1#1 ∧ b = 1#1 := by
  revert h; revert a b; decide

/-- A word that is at least 0 and at most 65536 as a signed one is so as a natural. -/
theorem small {x : BitVec 32} (h0 : IntOp.cmpi .sge x 0#32 = 1#1) (h1 : IntOp.cmpi .sle x 65536#32 = 1#1) : x.toNat ≤ 65536 := by
  unfold IntOp.cmpi at h0 h1
  have a : (0#32).sle x = true := by
    revert h0; cases (0#32).sle x <;> simp
  have b : x.sle 65536#32 = true := by
    revert h1; cases x.sle 65536#32 <;> simp
  rw [BitVec.sle_iff_toInt_le] at a b
  have e : (65536#32).toInt = 65536 := by decide
  have z : (0#32).toInt = 0 := by decide
  rw [e] at b; rw [z] at a
  rw [BitVec.toInt_eq_toNat_cond] at a b
  split at a <;> omega

/-- From each count's range and the sum, as words, to the classes' sizes. -/
theorem sizes_of (C : IVec (shape1 24) 32) (hr : (shape1 24).ReducesTo [0] shape0) (hu : 0 < shape0.numel)
    (hc : ∀ i : Fin 24, IntOp.cmpi .sge (C (ix1 i)) 0#32 = 1#1 ∧ IntOp.cmpi .sle (C (ix1 i)) 65536#32 = 1#1)
    (hs : IntOp.cmpi .eq (Host.reduce IntOp.addi C (constantI shape0 32 0#32) hr hu ValueIdx.ix0) 65536#32 = 1#1) : Sizes (sizes C) := by
  have hle : ∀ c < 24, sizes C c ≤ 65536 := fun c h => by
    unfold sizes; rw [dif_pos h]; exact small (hc ⟨c, h⟩).1 (hc ⟨c, h⟩).2
  refine ⟨hle, ?_⟩
  rw [reduce_sum C (sizes C) (sizes_holds C)] at hs
  have e : BitVec.ofNat 32 ((List.range 24).map (sizes C)).sum = 65536#32 := cmpi_eq_iff.1 hs
  have hb : ((List.range 24).map (sizes C)).sum ≤ 24 * 65536 := by
    have := List.sum_le_card_nsmul ((List.range 24).map (sizes C)) 65536 (by
      intro x hx
      obtain ⟨c, hc, rfl⟩ := List.mem_map.1 hx
      exact hle c (List.mem_range.1 hc))
    simpa using this
  have := congrArg BitVec.toNat e
  rw [BitVec.toNat_ofNat, Nat.mod_eq_of_lt (by omega)] at this
  exact this

variable {F : FTy → Type} [FloatOps F]

theorem sizes_of_counts [Pre_counts_of_tokens.Facts] (C X A B D) (h : Pre_counts_of_tokens.fn (F := F) C X A B D = fun _ => 1#1) : Sizes (sizes C) := by
  have hh : ∀ i : Fin 24, _ := fun i => and_bits (congrFun h (ix1 i))
  refine sizes_of C (by decide) (by decide) (fun i => and_bits (hh i).1) ?_
  have := (hh 0).2
  rw [bc0] at this
  exact this

theorem sizes_of_routed [Pre_routed.Facts] (C X A B D) (h : Pre_routed.fn (F := F) C X A B D = fun _ => 1#1) : Sizes (sizes C) := by
  have h0 := (and_bits (congrFun h (ix2 (0 : Fin 77824) (0 : Fin 2)))).2
  rw [bc0] at h0
  have hh : ∀ i : Fin 24, _ := fun i => and_bits (Host.reduce_andi_all _ _ _ _ _ h0 (ix1 i))
  refine sizes_of C (by decide) (by decide) (fun i => and_bits (hh i).1) ?_
  have := (hh 0).2
  rw [bc0] at this
  exact this

end Cert.ExpertsIdeal.Body
-- ==== Proof.Run.lean ====
module

public import proofs.«01_k».proof.Proof.Counts

@[expose] public section

set_option maxRecDepth 16384

/-!
# The run of the experts' program

From counts that are the sizes of 24 classes the program runs to its end over any floats, its arguments unchanged, its
semaphores at zero, and its output array as the steps write it.
-/

noncomputable section

namespace Cert.ExpertsIdeal.Body

open Cert.ExpertsIdeal Cert.ExpertsIdeal.Gen
open Idealize.ShloMosaic
open Idealize.ShloMosaic.TcCoe Idealize.ShloMosaic.Tactic
open Idealize.SL Idealize.SL.RA Idealize.SL.BI Idealize.SL.Sem
open Cert.ExpertsIdeal.Table

variable {F : FTy → Type} [FloatOps F]

/-! No operation of the host leaves a buffer undetermined. -/

theorem fresh_0 : (hostOps0 : List (HloOp τ sig (Elt F))).Forall fun op => op.fresh = ∅ := by
  simp only [hostOps0, List.Forall]
  repeat' (first | exact rfl | refine ⟨?_, ?_⟩)
theorem fresh_1 : (hostOps0_1 : List (HloOp τ sig (Elt F))).Forall fun op => op.fresh = ∅ := by
  simp only [hostOps0_1, List.Forall]
  repeat' (first | exact rfl | refine ⟨?_, ?_⟩)
theorem fresh_2 : (hostOps0_2 : List (HloOp τ sig (Elt F))).Forall fun op => op.fresh = ∅ := by
  simp only [hostOps0_2, List.Forall]
  repeat' (first | exact rfl | refine ⟨?_, ?_⟩)
theorem fresh_3 : (hostOps0_3 : List (HloOp τ sig (Elt F))).Forall fun op => op.fresh = ∅ := by
  simp only [hostOps0_3, List.Forall]
  repeat' (first | exact rfl | refine ⟨?_, ?_⟩)
theorem fresh_4 : (hostOps0_4 : List (HloOp τ sig (Elt F))).Forall fun op => op.fresh = ∅ := by
  simp only [hostOps0_4, List.Forall]
  repeat' (first | exact rfl | refine ⟨?_, ?_⟩)
theorem fresh_5 : (hostOps0_5 : List (HloOp τ sig (Elt F))).Forall fun op => op.fresh = ∅ := by
  simp only [hostOps0_5, List.Forall]
  repeat' (first | exact rfl | refine ⟨?_, ?_⟩)
theorem fresh_6 : (hostOps0_6 : List (HloOp τ sig (Elt F))).Forall fun op => op.fresh = ∅ := by
  simp only [hostOps0_6, List.Forall]
  repeat' (first | exact rfl | refine ⟨?_, ?_⟩)

/-! No operation of the host writes an argument. -/

/-- The arguments. -/
abbrev args : List (DevRef τ sig) := [Proc.devRef .tc main_arg0, Proc.devRef .tc main_arg1, Proc.devRef .tc main_arg2, Proc.devRef .tc main_arg3, Proc.devRef .tc main_arg4]

theorem spare {op : HloOp τ sig (Elt F)} {y : DevRef τ sig} (hw : op.writes = {y}) (hy : ∀ b ∈ args, b ≠ y) : ∀ b ∈ args, b ∉ op.writes :=
  fun b hb => by rw [hw, Finset.mem_singleton]; exact hy b hb

theorem spares_0 : (hostOps0 : List (HloOp τ sig (Elt F))).Forall fun op => ∀ b ∈ args, b ∉ op.writes := by
  simp only [hostOps0, List.Forall]
  repeat' (first | exact spare rfl (by decide) | refine ⟨?_, ?_⟩)
theorem spares_1 : (hostOps0_1 : List (HloOp τ sig (Elt F))).Forall fun op => ∀ b ∈ args, b ∉ op.writes := by
  simp only [hostOps0_1, List.Forall]
  repeat' (first | exact spare rfl (by decide) | refine ⟨?_, ?_⟩)
theorem spares_2 : (hostOps0_2 : List (HloOp τ sig (Elt F))).Forall fun op => ∀ b ∈ args, b ∉ op.writes := by
  simp only [hostOps0_2, List.Forall]
  repeat' (first | exact spare rfl (by decide) | refine ⟨?_, ?_⟩)
theorem spares_3 : (hostOps0_3 : List (HloOp τ sig (Elt F))).Forall fun op => ∀ b ∈ args, b ∉ op.writes := by
  simp only [hostOps0_3, List.Forall]
  repeat' (first | exact spare rfl (by decide) | refine ⟨?_, ?_⟩)
theorem spares_4 : (hostOps0_4 : List (HloOp τ sig (Elt F))).Forall fun op => ∀ b ∈ args, b ∉ op.writes := by
  simp only [hostOps0_4, List.Forall]
  repeat' (first | exact spare rfl (by decide) | refine ⟨?_, ?_⟩)
theorem spares_5 : (hostOps0_5 : List (HloOp τ sig (Elt F))).Forall fun op => ∀ b ∈ args, b ∉ op.writes := by
  simp only [hostOps0_5, List.Forall]
  repeat' (first | exact spare rfl (by decide) | refine ⟨?_, ?_⟩)
theorem spares_6 : (hostOps0_6 : List (HloOp τ sig (Elt F))).Forall fun op => ∀ b ∈ args, b ∉ op.writes := by
  simp only [hostOps0_6, List.Forall]
  repeat' (first | exact spare rfl (by decide) | refine ⟨?_, ?_⟩)

theorem run_at (m : (ℓ : Loc nD τ sig) → Buf (Elt F) ℓ) (a : (p : Fin 1) → (pcfgs (F := F) p).Adm)
    (ρ : Dev nD → PrngReg) (ha : ∀ c k, V m c (pre0.ref k) = (a 0).1 k) :
    θ_run (defs (F := F)) (onTc main) ⟨m, fun _ => 0, ρ⟩ fun r =>
      Pipeline.FramePost (Pipeline.pin (pcfgs (F := F)) a) (dats m a) 0 (V m) r ∧ r.2.sem = (fun _ => 0) :=
  Pipeline.θ_run_frameP_shared (pcfgs (F := F)) a (dats m a) 0 launch₀0 (defs₀ (F := F)) Variants.none m ρ main
    (fun c => (body_obligation m a c).loose) (fun _ _ _ => rfl) (fun _ _ => rfl) (V m)
    (Pipeline.hmainP_prefixes (pcfgs (F := F)) 0 (defs₀ (F := F)) Variants.none m main (Table.opss (F := F))
      ⟨hostOps0_sub, hostOps0_1_sub, hostOps0_2_sub, hostOps0_3_sub, hostOps0_4_sub, hostOps0_5_sub, hostOps0_6_sub⟩
      ⟨fresh_0, fresh_1, fresh_2, fresh_3, fresh_4, fresh_5, fresh_6⟩ main_chain)
    (fun _ _ => rfl) ha (fun _ _ => rfl) _ (fun _ h => h)

variable (m : (ℓ : Loc nD τ sig) → Buf (Elt F) ℓ)

/-- The counts that the program is given. -/
abbrev counts (c : Dev nD) : IVec S24 32 := m ((c.tc : Thread nD τ).loc main_arg0)

/-- The table that the host makes of the counts. -/
def contents : pre0.Contents (Elt F) := fun k => V m 0 (pre0.ref k)

theorem contents_table (h : Sizes (sizes (counts m 0))) : TableOf (sizes (counts m 0)) (contents m (0 : Fin 1)) :=
  table _ h.le h.sum (sizes_holds _)

/-- The pipeline's table. -/
def adm (h : Sizes (sizes (counts m 0))) (p : Fin 1) : (pcfgs (F := F) p).Adm :=
  ⟨contents m, ok_table h (contents m) (contents_table m h)⟩

/-- No host operation writes an argument. -/
theorem V_arg (c : Dev nD) : V m c main_arg0 = m ((c.tc : Thread nD τ).loc main_arg0) ∧ V m c main_arg1 = m ((c.tc : Thread nD τ).loc main_arg1)
    ∧ V m c main_arg2 = m ((c.tc : Thread nD τ).loc main_arg2) ∧ V m c main_arg3 = m ((c.tc : Thread nD τ).loc main_arg3)
    ∧ V m c main_arg4 = m ((c.tc : Thread nD τ).loc main_arg4) := by
  have h : ∀ b ∈ args, StableHlo.after (Table.opss (F := F)).flatten (fun b => m (c, b)) b = m (c, b) := fun b hb =>
    StableHlo.after_of_forall_not_mem _ _ fun op hop => by
      obtain ⟨ops, ho, hop⟩ := List.mem_flatten.1 hop
      have : (Table.opss (F := F)).Forall fun ops => ops.Forall fun op => ∀ b ∈ args, b ∉ op.writes :=
        ⟨spares_0, spares_1, spares_2, spares_3, spares_4, spares_5, spares_6⟩
      exact List.forall_iff_forall_mem.1 (List.forall_iff_forall_mem.1 this ops ho) op hop b hb
  exact ⟨h _ (by decide), h _ (by decide), h _ (by decide), h _ (by decide), h _ (by decide)⟩

/-- The program's run. -/
theorem run_main (ρ : Dev nD → PrngReg) (h : Sizes (sizes (counts m 0))) :
    θ_run (defs (F := F)) (onTc main) ⟨m, fun _ => 0, ρ⟩ fun r =>
      (∀ c : Dev nD, r.2.mem ((c.tc : Thread nD τ).loc main_v54) = (dat m (adm m h) c).arrAt (7 : Fin 8) (cfgA (adm m h)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 := by
  refine (θ_run (defs (F := F)) _ _).mono (fun r hr => ?_) (run_at m (adm m h) ρ fun c k => by rw [Subsingleton.elim c 0]; rfl)
  refine ⟨fun c => ⟨(hr.1 c).1 (7 : Fin 8), ?_, ?_, ?_, ?_, ?_⟩, hr.2⟩
  · exact ((hr.1 c).2 main_arg0 (show main_arg0 ∈ Pipeline.restRefs sig spec0 by decide)).trans (V_arg m c).1
  · exact ((hr.1 c).1 (0 : Fin 8)).trans (((dat m (adm m h) c).arrAt_in (0 : Fin 8) rfl _).trans (V_arg m c).2.1)
  · exact ((hr.1 c).2 main_arg2 (show main_arg2 ∈ Pipeline.restRefs sig spec0 by decide)).trans (V_arg m c).2.2.1
  · exact ((hr.1 c).2 main_arg3 (show main_arg3 ∈ Pipeline.restRefs sig spec0 by decide)).trans (V_arg m c).2.2.2.1
  · exact ((hr.1 c).2 main_arg4 (show main_arg4 ∈ Pipeline.restRefs sig spec0 by decide)).trans (V_arg m c).2.2.2.2

end Cert.ExpertsIdeal.Body

end
-- ==== Proof.Formula.lean ====
module

public import Idealize.ShloMosaic.Lib.Pointwise
public import Idealize.ShloMosaic.Lib.IdealHost

@[expose] public section

/-!
# One expert on one row

`outAt x A B D d` is entry `d` of what an expert with the matrices `A`, `B`, `D` makes of the row `x`. The kernel writes the logistic function by the
hyperbolic tangent and multiplies by a row's weight before the last product; `gate_tanh` and `weighted` undo both.
-/

namespace Cert.Formula

open Idealize.ShloMosaic

/-- A hidden entry. -/
noncomputable def hid (x : Fin 1024 → EReal) (A B : Fin 1024 → Fin 512 → EReal) (k : Fin 512) : EReal :=
  (∑ j, x j * A j k) * Ideal.logistic (∑ j, x j * A j k) * ∑ j, x j * B j k

/-- An expert's output. -/
noncomputable def outAt (x : Fin 1024 → EReal) (A B : Fin 1024 → Fin 512 → EReal) (D : Fin 512 → Fin 1024 → EReal) (d : Fin 1024) : EReal :=
  ∑ k, hid x A B k * D k d

theorem ofBits_half : Ideal.ofBits .f32 0x3F000000#32 = ((1 / 2 : ℝ) : EReal) := by
  simp [Ideal.ofBits, Ideal.ieee, -EReal.coe_mul]
  norm_num

theorem gate_tanh (g : EReal) : ((1 / 2 : ℝ) : EReal) * Ideal.tanh (((1 / 2 : ℝ) : EReal) * g) + ((1 / 2 : ℝ) : EReal) = Ideal.logistic g := by
  induction g using EReal.rec with
  | bot =>
    rw [EReal.coe_mul_bot_of_pos (by norm_num), Ideal.tanh_bot, Ideal.logistic_bot, show (-1 : EReal) = ((-1 : ℝ) : EReal) by norm_num,
      ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have h3 := Real.exp_pos (1 / 2 * r)
    have h4 := Real.exp_pos (-(1 / 2 * r))
    rw [h1]
    generalize Real.exp (1 / 2 * r) = a at *
    generalize Real.exp (-(1 / 2 * r)) = b at *
    field_simp
    nlinarith

/-- A nonnegative finite weight comes out of a sum. -/
theorem mul_sum_of {w : EReal} (h0 : 0 ≤ w) (h1 : w ≠ ⊤) : ∀ {n : ℕ} (f : Fin n → EReal), ∑ k, w * f k = w * ∑ k, f k
  | 0, f => by simp
  | n + 1, f => by rw [Fin.sum_univ_succ, Fin.sum_univ_succ, mul_sum_of h0 h1, EReal.left_distrib_of_nonneg_of_ne_top h0 h1]

/-- The weight multiplies the output where the kernel multiplies the hidden entries by it. -/
theorem weighted {w : EReal} (h0 : 0 ≤ w) (h1 : w ≠ ⊤) (x : Fin 1024 → EReal) (A B : Fin 1024 → Fin 512 → EReal) (D : Fin 512 → Fin 1024 → EReal)
    (d : Fin 1024) : ∑ k, hid x A B k * w * D k d = w * outAt x A B D d := by
  unfold outAt
  rw [← mul_sum_of h0 h1]
  exact Finset.sum_congr rfl fun k _ => by rw [mul_comm (hid x A B k) w, mul_assoc]

end Cert.Formula

end
-- ==== Proof.TileValue.lean ====
module

public import proofs.«01_k».proof.Proof.Step
public import proofs.«01_k».proof.Proof.Formula

@[expose] public section

set_option maxRecDepth 16384

/-!
# A tile over the extended reals

Row `r` of a tile is the two experts' outputs, each times the row's weight of that expert.
-/

namespace Cert.ExpertsIdeal.Body

open Idealize.ShloMosaic Idealize.ShloMosaic.TcCoe
open Cert.Formula Cert.ExpertsIdeal.Gen

/-- A row's entries that the experts read. -/
def rowOf (x0 : FVec Ideal S512x1152 .f32) (r : Fin 512) : Fin 1024 → EReal := fun j => x0 (ix2 r (⟨j.val, by omega⟩ : Fin 1152))
/-- A block of one expert's matrix. -/
def sq (x : FVec Ideal S1x1024x512 .f32) : Fin 1024 → Fin 512 → EReal := fun j k => x (ix3 (0 : Fin 1) j k)
/-- A block of one expert's last matrix. -/
def sq' (x : FVec Ideal S1x512x1024 .f32) : Fin 512 → Fin 1024 → EReal := fun k d => x (ix3 (0 : Fin 1) k d)

theorem xpart_at (x0 : FVec Ideal S512x1152 .f32) (r : Fin 512) (j : Fin 1024) : xpart (F := Ideal) x0 (ix2 r j) = rowOf x0 r j :=
  congrArg x0 (funext fun a => Fin.ext (by match a with | ⟨0, _⟩ => exact (Nat.zero_add _).trans (Nat.one_mul _) | ⟨1, _⟩ => exact (Nat.zero_add _).trans (Nat.one_mul _)))
theorem wlo_at (x0 : FVec Ideal S512x1152 .f32) (r : Fin 512) : wlo (F := Ideal) x0 (ix2 r (0 : Fin 1)) = x0 (ix2 r (⟨1024, by omega⟩ : Fin 1152)) :=
  congrArg x0 (funext fun a => Fin.ext (by match a with | ⟨0, _⟩ => exact (Nat.zero_add _).trans (Nat.one_mul _) | ⟨1, _⟩ => rfl))
theorem whi_at (x0 : FVec Ideal S512x1152 .f32) (r : Fin 512) : whi (F := Ideal) x0 (ix2 r (0 : Fin 1)) = x0 (ix2 r (⟨1025, by omega⟩ : Fin 1152)) :=
  congrArg x0 (funext fun a => Fin.ext (by match a with | ⟨0, _⟩ => exact (Nat.zero_add _).trans (Nat.one_mul _) | ⟨1, _⟩ => rfl))

/-- The payloads over the rows and weights as variables. -/
theorem pays_at (X : FVec Ideal S512x1024 .f32) (wl wh : FVec Ideal S512x1 .f32) (x1 x2 : FVec Ideal S1x1024x512 .f32) (x3 : FVec Ideal S1x512x1024 .f32)
    (x4 x5 : FVec Ideal S1x1024x512 .f32) (x6 : FVec Ideal S1x512x1024 .f32) (r : Fin 512) (d : Fin 1024) :
    k0_pay1 (F := Ideal) (k0_pay3 X) wh (k0_pay4 X wl x1 x2 x3) (k0_pay5 X x4) x5 x6 (ix2 r d)
      = ∑ k, hid (fun j => X (ix2 r j)) (sq x1) (sq x2) k * wl (ix2 r (0 : Fin 1)) * sq' x3 k d
        + ∑ k, hid (fun j => X (ix2 r j)) (sq x4) (sq x5) k * wh (ix2 r (0 : Fin 1)) * sq' x6 k d := by
  pointwise [k0_pay1, k0_pay3, k0_pay4, k0_pay5, Ideal.tanh_def]
  simp only [hid, sq, sq', ← gate_tanh, ← ofBits_half]

/-- A tile at an entry. -/
theorem tile_at (x0 : FVec Ideal S512x1152 .f32) (x1 x2 : FVec Ideal S1x1024x512 .f32) (x3 : FVec Ideal S1x512x1024 .f32)
    (x4 x5 : FVec Ideal S1x1024x512 .f32) (x6 : FVec Ideal S1x512x1024 .f32) (r : Fin 512) (d : Fin 1024)
    (hl : 0 ≤ x0 (ix2 r (⟨1024, by omega⟩ : Fin 1152))) (hl' : x0 (ix2 r (⟨1024, by omega⟩ : Fin 1152)) ≠ ⊤)
    (hh : 0 ≤ x0 (ix2 r (⟨1025, by omega⟩ : Fin 1152))) (hh' : x0 (ix2 r (⟨1025, by omega⟩ : Fin 1152)) ≠ ⊤) :
    tile (F := Ideal) x0 x1 x2 x3 x4 x5 x6 (ix2 r d)
      = x0 (ix2 r (⟨1024, by omega⟩ : Fin 1152)) * outAt (rowOf x0 r) (sq x1) (sq x2) (sq' x3) d
        + x0 (ix2 r (⟨1025, by omega⟩ : Fin 1152)) * outAt (rowOf x0 r) (sq x4) (sq x5) (sq' x6) d := by
  have h := pays_at (xpart (F := Ideal) x0) (wlo (F := Ideal) x0) (whi (F := Ideal) x0) x1 x2 x3 x4 x5 x6 r d
  rw [wlo_at, whi_at, show (fun j => xpart (F := Ideal) x0 (ix2 r j)) = rowOf x0 r from funext fun j => xpart_at x0 r j, weighted hl hl', weighted hh hh'] at h
  exact h

end Cert.ExpertsIdeal.Body

end
-- ==== Proof.DenseWords.lean ====
module

public import proofs.«01_k».proof.Proof.Gen.DenseIdeal.Run
public import proofs.«01_k».proof.Proof.Words

@[expose] public section

set_option maxRecDepth 16384

/-!
# The reference's integers

Where classes end, the class of each row, its two experts, and whether the row is in use.
-/

namespace Cert.DenseIdeal.Row

open Idealize.ShloMosaic Idealize.ShloMosaic.TcCoe Idealize.ShloMosaic.ValueIdx Idealize.ShloMosaic.Routing Idealize.ShloMosaic.WordCmp
open Cert.Classes Cert.DenseIdeal Cert.DenseIdeal.Gen

/-- Where classes end. -/
noncomputable def endsOf (C : IVec S24 32) : IVec S24 32 :=
  Host.reduceWindow IntOp.addi ![24] ![1] ![23] ![0]
    (muli (pyDiv bcast_S_S24 (addi C (broadcastInDim S24 ![] bcast_S_S24 (constantI S_ 32 511#32))) (id (constantI S_ 32 512#32)))
      (broadcastInDim S24 ![] bcast_S_S24 (constantI S_ 32 512#32)))
    (broadcastInDim S_ ![] bcast_S_S_ (constantI S_ 32 0#32)) reduceWindows_S24_S24_w24s1p23_0 h_S_

/-- The class of each row. -/
noncomputable def clsOf (E : IVec S24 32) : IVec S77824 32 :=
  minsi (Host.reduce IntOp.addi
      (extui 32 (cmpi .sge (iotaInDim S77824x24 32 0) (broadcastInDim S77824x24 ![0, 1] bcast_S1x24_S77824x24_0_1 (broadcastInDim S1x24 ![1] bcast_S24_S1x24_1 E)))
        natLt_1_32) (constantI S_ 32 0#32) reducesTo_S77824x24_S77824_d1 h_S_)
    (broadcastInDim S77824 ![] bcast_S_S77824 (constantI S_ 32 23#32))

/-- An entry of a table of the classes for each row. -/
noncomputable def look (tab : IVec S24 32) (k : IVec S77824 32) : IVec S77824 32 :=
  Host.gather gather_S24_S77824x1_S77824_n_0_n_n_0_1_1 tab
    (broadcastInDim S77824x1 ![0] bcast_S77824_S77824x1_0
      (select (cmpi .slt k (broadcastInDim S77824 ![] bcast_S_S77824 (constantI S_ 32 0#32)))
        (addi k (broadcastInDim S77824 ![] bcast_S_S77824 (constantI S_ 32 24#32))) k))

/-- Which rows are in use. -/
noncomputable def used (E : IVec S24 32) : IVec S77824x1 1 :=
  cmpi .slt (iotaInDim S77824x1 32 0)
    (broadcastInDim S77824x1 ![] bcast_S_S77824x1 (shapeCast S_ (extractStridedSlice S1 ![23] E slices_S24_S1_23) shapeCasts_S1_S_))

theorem endsOf_ap {f : ℕ → ℕ} (hf : ∀ c < 24, f c ≤ 65536) (C : IVec S24 32) (hC : ∀ i : Fin 24, C (ix1 i) = BitVec.ofNat 32 (f i.val)) (q : Fin 24) :
    endsOf C (ix1 q) = BitVec.ofNat 32 (ends f q.val) := by
  unfold endsOf
  refine cumsum1 (Nm1 := 23) rfl _ (fun j => pad (f j)) (fun i => ?_) _ rfl _ _ q
  have hi := hf i.val i.isLt
  rw [muli_ap, bc0, floordiv_ap bcast_S_S24 _ _ (ix1 i) (a := f i.val + 511) ?_ (by omega) rfl]
  · rw [constantI_at, show (512#32 : BitVec 32) = BitVec.ofNat 32 512 from rfl, ← BitVec.ofNat_mul]; rfl
  · rw [addi_ap, bc0, constantI_at, hC i, show (511#32 : BitVec 32) = BitVec.ofNat 32 511 from rfl, ← BitVec.ofNat_add]

section
variable {f : ℕ → ℕ} (hE : ends f 23 < 2 ^ 31) (E : IVec S24 32) (h : ∀ q : Fin 24, E (ix1 q) = BitVec.ofNat 32 (ends f q.val))

include hE h

theorem clsOf_ap (p : Fin 77824) : clsOf E (ix1 p) = BitVec.ofNat 32 (cls f p.val) := by
  unfold clsOf
  refine class_ap _ _ _ _ _ _ f p (p := p.val) (by omega) hE (fun q => rfl) fun q => ?_
  rw [bcCols]; exact h q

theorem look_ap (tab : Fin 24 → BitVec 32) (p : Fin 77824) :
    look (fun i => tab (S24.rowMajor i)) (clsOf E) (ix1 p) = tab ⟨cls f p.val, cls_lt f p.val⟩ := by
  unfold look
  refine (gather_take1 _ rfl rfl rfl rfl _ _ p ⟨cls f p.val, cls_lt f p.val⟩ ?_ (by norm_num)).trans ?_
  · rw [bcCol]
    exact wrap_ap _ _ _ p (clsOf_ap hE E h p) (by have := cls_lt f p.val; omega)
  · exact congrArg tab (Fin.ext (by
      show (S24.rowMajor (ix1 (⟨cls f p.val, cls_lt f p.val⟩ : Fin 24))).val = cls f p.val
      rw [Shape.rowMajor_val_one]))

theorem used_ap (p : Fin 77824) : used E (ix2 p (0 : Fin 1)) = 1#1 ↔ p.val < ends f 23 := by
  have e : broadcastInDim S77824x1 ![] bcast_S_S77824x1 (shapeCast S_ (extractStridedSlice S1 ![23] E slices_S24_S1_23) shapeCasts_S1_S_) (ix2 p (0 : Fin 1))
      = BitVec.ofNat 32 (ends f 23) := by
    rw [bc0]
    refine Eq.trans ?_ (h 23)
    exact congrArg E (funext fun a => by fin_cases a; rfl)
  unfold used
  rw [cmpi_at, e]
  show IntOp.cmpi .slt (BitVec.ofNat 32 p.val) _ = 1#1 ↔ _
  simp only [IntOp.cmpi, slt_ofNat32 (show p.val < 2 ^ 31 by omega) hE]
  by_cases hp : p.val < ends f 23 <;> simp [hp]
end

end Cert.DenseIdeal.Row

end
-- ==== Proof.DenseRow.lean ====
module

public import proofs.«01_k».proof.Proof.DenseWords
public import proofs.«01_k».proof.Proof.Formula

@[expose] public section

set_option maxRecDepth 16384

/-!
# The reference at an entry

The reference's result is the sum over all experts of the row's weight of the expert times the expert's output, and the weights of all but two are zero.
-/

namespace Cert.DenseIdeal.Row

open Idealize.ShloMosaic Idealize.ShloMosaic.TcCoe
open Cert.Classes Cert.Formula Cert.DenseIdeal Cert.DenseIdeal.Gen

section
variable {F : FTy → Type} [FloatOps F]

/-- A row's weight for each expert, from one of its two experts. -/
noncomputable def hot (L : IVec S77824 32) (W : FVec F S77824x1 .f32) : FVec F S77824x16 .f32 :=
  mulf (uitofp .f32 (cmpi .eq (broadcastInDim S77824x16 ![0, 1] bcast_S77824x1_S77824x16_0_1 (broadcastInDim S77824x1 ![0] bcast_S77824_S77824x1_0 L))
      (broadcastInDim S77824x16 ![0, 1] bcast_S1x16_S77824x16_0_1 (iotaInDim S1x16 32 1))))
    (broadcastInDim S77824x16 ![0, 1] bcast_S77824x1_S77824x16_0_1 W)

/-- A row's weight for each expert. -/
noncomputable def comb (U : IVec S77824x1 1) (L H : IVec S77824 32) (X : FVec F S77824x1152 .f32) : FVec F S77824x16 .f32 :=
  select (broadcastInDim S77824x16 ![0, 1] bcast_S77824x1_S77824x16_0_1 U)
    (addf (hot L (extractStridedSlice S77824x1 ![0, 0] (extractStridedSlice S77824x2 ![0, 1024] X slices_S77824x1152_S77824x2_0_1024) slices_S77824x2_S77824x1_0_0))
      (hot H (extractStridedSlice S77824x1 ![0, 1] (extractStridedSlice S77824x2 ![0, 1024] X slices_S77824x1152_S77824x2_0_1024) slices_S77824x2_S77824x1_0_1)))
    (broadcastInDim S77824x16 ![] bcast_S_S77824x16 (id (constant S_ .f32 0x00000000#32)))

/-- All rows through all experts' first or second matrices. -/
noncomputable def through (A : FVec F S1x16x1024x512 .f32) (X : FVec F S77824x1152 .f32) : FVec F S16x77824x512 .f32 :=
  transpose S16x77824x512 [0, 2, 1] (Host.dotGeneral dot_S16x1024x512_S77824x1024_S16x512x77824_1_1_02_0_n_n none
    (shapeCast S16x1024x512 A shapeCasts_S1x16x1024x512_S16x1024x512)
    (extractStridedSlice S77824x1024 ![0, 0] X slices_S77824x1152_S77824x1024_0_0)) transposes_S16x512x77824_S16x77824x512_0_2_1

/-- All experts' outputs on all rows. -/
noncomputable def outs (G U : FVec F S16x77824x512 .f32) (D : FVec F S1x16x512x1024 .f32) : FVec F S16x77824x1024 .f32 :=
  Host.dotGeneral dot_S16x77824x512_S16x512x1024_S16x77824x1024_2_1_1_2_0_0 none
    (mulf (mulf G (Host.divf (broadcastInDim S16x77824x512 ![] bcast_S_S16x77824x512 (constant S_ .f32 0x3F800000#32))
      (addf (broadcastInDim S16x77824x512 ![] bcast_S_S16x77824x512 (constant S_ .f32 0x3F800000#32)) (Host.exp (Host.negf G))))) U)
    (shapeCast S16x512x1024 D shapeCasts_S1x16x512x1024_S16x512x1024)

/-- The weighted sum over the experts. -/
noncomputable def total (W : FVec F S77824x16 .f32) (O : FVec F S16x77824x1024 .f32) : FVec F S77824x1024 .f32 :=
  Host.reduceAdd (mulf (broadcastInDim S16x77824x1024 ![0, 1, 2] bcast_S16x77824x1_S16x77824x1024_0_1_2
      (broadcastInDim S16x77824x1 ![0, 1] bcast_S16x77824_S16x77824x1_0_1 (transpose S16x77824 [1, 0] W transposes_S77824x16_S16x77824_1_0))) O)
    (constant S_ .f32 0x00000000#32) reducesTo_S16x77824x1024_S77824x1024_d0 h_S_

/-- The reference, of its five arguments. -/
noncomputable def dense (C : IVec S24 32) (X : FVec F S77824x1152 .f32) (A B : FVec F S1x16x1024x512 .f32) (D : FVec F S1x16x512x1024 .f32) :
    FVec F S77824x1024 .f32 :=
  total (comb (used (endsOf C)) (look (fun i => lit0 (S24.rowMajor i)) (clsOf (endsOf C))) (look (fun i => lit1 (S24.rowMajor i)) (clsOf (endsOf C))) X)
    (outs (through A X) (through B X) D)

theorem res_eq (m : (ℓ : Loc nD τ sig) → Buf (Elt F) ℓ) (c : Dev nD) :
    Value.res_main_v59 m c = dense (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v59 dense total comb hot through outs used look clsOf endsOf Routing.pyDiv
  rfl
end

/-- A row's entries that the experts read. -/
def rowOf (X : FVec Ideal S77824x1152 .f32) (p : Fin 77824) : Fin 1024 → EReal := fun j => X (ix2 p (⟨j.val, by omega⟩ : Fin 1152))
/-- Expert `e`'s first or second matrix. -/
def sq (A : FVec Ideal S1x16x1024x512 .f32) (e : Fin 16) : Fin 1024 → Fin 512 → EReal := fun j k => A (ix4 (0 : Fin 1) e j k)
/-- Expert `e`'s last matrix. -/
def sq' (D : FVec Ideal S1x16x512x1024 .f32) (e : Fin 16) : Fin 512 → Fin 1024 → EReal := fun k d => D (ix4 (0 : Fin 1) e k d)

theorem through_at (A : FVec Ideal S1x16x1024x512 .f32) (X : FVec Ideal S77824x1152 .f32) (e : Fin 16) (p : Fin 77824) (k : Fin 512) :
    through A X (ix3 e p k) = ∑ j, rowOf X p j * sq A e j k := by
  pointwise [through]
  exact Finset.sum_congr rfl fun j _ => mul_comm _ _

theorem outs_at (G U : FVec Ideal S16x77824x512 .f32) (D : FVec Ideal S1x16x512x1024 .f32) (e : Fin 16) (p : Fin 77824) (d : Fin 1024) :
    outs G U D (ix3 e p d) = ∑ k, G (ix3 e p k) * Ideal.logistic (G (ix3 e p k)) * U (ix3 e p k) * sq' D e k d := by
  pointwise [outs, Ideal.logistic, sq']

theorem total_at (W : FVec Ideal S77824x16 .f32) (O : FVec Ideal S16x77824x1024 .f32) (p : Fin 77824) (d : Fin 1024) :
    total W O (ix2 p d) = ∑ e : Fin 16, W (ix2 p e) * O (ix3 e p d) := by
  pointwise [total]

theorem hot_at (L : IVec S77824 32) (W : FVec Ideal S77824x1 .f32) (p : Fin 77824) (e a : Fin 16) (hL : L (ix1 p) = BitVec.ofNat 32 a.val) :
    hot L W (ix2 p e) = if a = e then W (ix2 p (0 : Fin 1)) else 0 := by
  pointwise [hot, hL]
  by_cases h : a = e
  · rw [if_pos h, h]
    simp only [IntOp.cmpi, beq_self_eq_true]
    show (((1 : ℕ) : ℝ) : EReal) * _ = _
    simp
  · have hne : BitVec.ofNat 32 a.val ≠ BitVec.ofNat 32 e.val := fun hh => h (Fin.ext (by
      have := congrArg BitVec.toNat hh
      simp only [BitVec.toNat_ofNat] at this
      omega))
    rw [if_neg h]
    simp only [IntOp.cmpi, beq_false_of_ne hne]
    show (((0 : ℕ) : ℝ) : EReal) * _ = _
    simp

theorem comb_at (U : IVec S77824x1 1) (L H : IVec S77824 32) (X : FVec Ideal S77824x1152 .f32) (p : Fin 77824) (e a b : Fin 16)
    (hL : L (ix1 p) = BitVec.ofNat 32 a.val) (hH : H (ix1 p) = BitVec.ofNat 32 b.val) :
    comb U L H X (ix2 p e) = if U (ix2 p (0 : Fin 1)) = 1#1 then
      (if a = e then X (ix2 p (⟨1024, by omega⟩ : Fin 1152)) else 0) + (if b = e then X (ix2 p (⟨1025, by omega⟩ : Fin 1152)) else 0) else 0 := by
  pointwise [comb]
  rw [hot_at L _ p e a hL, hot_at H _ p e b hH]
  pointwise [id]
  rfl

/-- The sum over the experts of a row's weights times anything is two terms. -/
theorem sum_two (a b : Fin 16) (hab : a ≠ b) (u v : EReal) (o : Fin 16 → EReal) :
    ∑ e : Fin 16, ((if a = e then u else 0) + (if b = e then v else 0)) * o e = u * o a + v * o b := by
  have h : ∀ e, ((if a = e then u else 0) + (if b = e then v else 0)) * o e = (if a = e then u * o e else 0) + (if b = e then v * o e else 0) := fun e => by
    by_cases ha : a = e
    · have hb : b ≠ e := fun hb => hab (ha.trans hb.symm)
      simp [ha, hb]
    · by_cases hb : b = e
      · simp [ha, hb]
      · simp [ha, hb]
  rw [Finset.sum_congr rfl fun e _ => h e, Finset.sum_add_distrib, Finset.sum_ite_eq, Finset.sum_ite_eq]
  simp

/-- What the layer's experts make of row `p`, at entry `d`. -/
noncomputable def rowVal (f : ℕ → ℕ) (X : FVec Ideal S77824x1152 .f32) (A B : FVec Ideal S1x16x1024x512 .f32) (D : FVec Ideal S1x16x512x1024 .f32)
    (a b : Fin 16) (p : Fin 77824) (d : Fin 1024) : EReal :=
  if p.val < ends f 23 then
    X (ix2 p (⟨1024, by omega⟩ : Fin 1152)) * outAt (rowOf X p) (sq A a) (sq B a) (sq' D a) d
      + X (ix2 p (⟨1025, by omega⟩ : Fin 1152)) * outAt (rowOf X p) (sq A b) (sq B b) (sq' D b) d
  else 0

theorem dense_at {f : ℕ → ℕ} (hf : ∀ c < 24, f c ≤ 65536) (hE : ends f 23 < 2 ^ 31) (C : IVec S24 32)
    (hC : ∀ i : Fin 24, C (ix1 i) = BitVec.ofNat 32 (f i.val)) (X : FVec Ideal S77824x1152 .f32) (A B : FVec Ideal S1x16x1024x512 .f32)
    (D : FVec Ideal S1x16x512x1024 .f32) (p : Fin 77824) (d : Fin 1024) (a b : Fin 16) (hab : a ≠ b)
    (ha : lit0 ⟨cls f p.val, cls_lt f p.val⟩ = BitVec.ofNat 32 a.val) (hb : lit1 ⟨cls f p.val, cls_lt f p.val⟩ = BitVec.ofNat 32 b.val) :
    dense (F := Ideal) C X A B D (ix2 p d) = rowVal f X A B D a b p d := by
  have hEs := endsOf_ap hf C hC
  have hU : used (endsOf C) (ix2 p (0 : Fin 1)) = 1#1 ↔ p.val < ends f 23 := used_ap hE (endsOf C) hEs p
  have hL := (look_ap hE (endsOf C) hEs lit0 p).trans ha
  have hH := (look_ap hE (endsOf C) hEs lit1 p).trans hb
  unfold dense
  rw [total_at, Finset.sum_congr rfl fun e _ => by rw [comb_at _ _ _ X p e a b hL hH, outs_at]]
  have ho : ∀ e : Fin 16, (∑ k, through A X (ix3 e p k) * Ideal.logistic (through A X (ix3 e p k)) * through B X (ix3 e p k) * sq' D e k d)
      = outAt (rowOf X p) (sq A e) (sq B e) (sq' D e) d := fun e => Finset.sum_congr rfl fun k _ => by rw [through_at, through_at]; rfl
  unfold rowVal
  by_cases hp : p.val < ends f 23
  · rw [if_pos hp]
    refine Eq.trans ?_ (sum_two a b hab _ _ fun e => outAt (rowOf X p) (sq A e) (sq B e) (sq' D e) d)
    exact Finset.sum_congr rfl fun e _ => by rw [if_pos (hU.2 hp), ho]
  · rw [if_neg hp]
    exact Finset.sum_eq_zero fun e _ => by rw [if_neg (fun h => hp (hU.1 h)), zero_mul]

end Cert.DenseIdeal.Row

end
-- ==== Proof.ArrayValue.lean ====
module

public import proofs.«01_k».proof.Proof.Run
public import proofs.«01_k».proof.Proof.TileValue
public import proofs.«01_k».proof.Proof.DenseRow
public import Idealize.ShloMosaic.Lib.Pipeline.ValueKit

@[expose] public section

set_option maxRecDepth 16384

/-!
# The output array

Step `t` writes rows `512 t … 512 t + 511`.
-/

noncomputable section

namespace Cert.ExpertsIdeal.Body

open Cert.ExpertsIdeal Cert.ExpertsIdeal.Gen
open Idealize.ShloMosaic Idealize.ShloMosaic.TcCoe Idealize.ShloMosaic.Tactic
open Cert.Classes Cert.ExpertsIdeal.Table
open Idealize.ShloMosaic.Pipeline (Dat)

variable {F : FTy → Type} [FloatOps F]
variable (m : (ℓ : Loc nD τ sig) → Buf (Elt F) ℓ) (a : (p : Fin 1) → (pcfgs (F := F) p).Adm)

theorem coord (t : Fin grid0.N) : (grid0.coords t 0).val = t.val := (by decide +kernel : ∀ t : Fin grid0.N, (grid0.coords t 0).val = t.val) t

section
variable {f : ℕ → ℕ} (h : Sizes f) (hT : TableOf f ((a 0).1 (0 : Fin 1)))
include h hT

theorem index_0 (t : Fin (cfgA a).N) : ((cfgA a).win (0 : Fin 8)).index t = ![row f t.val, 0] :=
  (block_0 h (a 0).1 hT (crd a t)).trans (by rw [coord])
theorem index_1 (t : Fin (cfgA a).N) : ((cfgA a).win (1 : Fin 8)).index t = ![(lit0 (kind f t.val)).toNat, 0, 0] :=
  (block_1 h (a 0).1 hT (crd a t)).trans (by rw [coord])
theorem index_2 (t : Fin (cfgA a).N) : ((cfgA a).win (2 : Fin 8)).index t = ![(lit0 (kind f t.val)).toNat, 0, 0] :=
  (block_2 h (a 0).1 hT (crd a t)).trans (by rw [coord])
theorem index_3 (t : Fin (cfgA a).N) : ((cfgA a).win (3 : Fin 8)).index t = ![(lit0 (kind f t.val)).toNat, 0, 0] :=
  (block_3 h (a 0).1 hT (crd a t)).trans (by rw [coord])
theorem index_4 (t : Fin (cfgA a).N) : ((cfgA a).win (4 : Fin 8)).index t = ![(lit1 (kind f t.val)).toNat, 0, 0] :=
  (block_4 h (a 0).1 hT (crd a t)).trans (by rw [coord])
theorem index_5 (t : Fin (cfgA a).N) : ((cfgA a).win (5 : Fin 8)).index t = ![(lit1 (kind f t.val)).toNat, 0, 0] :=
  (block_5 h (a 0).1 hT (crd a t)).trans (by rw [coord])
theorem index_6 (t : Fin (cfgA a).N) : ((cfgA a).win (6 : Fin 8)).index t = ![(lit1 (kind f t.val)).toNat, 0, 0] :=
  (block_6 h (a 0).1 hT (crd a t)).trans (by rw [coord])

theorem row_lt (t : Fin (cfgA a).N) (r : Fin 512) : row f t.val * 512 + r.val < 77824 := by
  have := h.tiles_pos; have := h.tiles_le; unfold row; omega

theorem rows_at (c : Dev nD) (t : Fin (cfgA a).N) (r : Fin 512) (j : Fin 1152) :
    (show S512x1152.Idx → Elt F .f32 from iblk m a c (0 : Fin 8) t) (ix2 r j)
      = (show S77824x1152.Idx → Elt F .f32 from V m c main_arg1) (ix2 (⟨row f t.val * 512 + r.val, row_lt a h hT t r⟩ : Fin 77824) j) := by
  refine congrArg (V m c main_arg1) (funext fun b => Fin.ext ?_)
  have e := index_0 a h hT t
  match b with
  | ⟨0, _⟩ =>
    show ((cfgA a).win (0 : Fin 8)).index t (0 : Fin 2) * 512 + 1 * r.val = row f t.val * 512 + r.val
    rw [e]; show row f t.val * 512 + 1 * r.val = _; omega
  | ⟨1, _⟩ =>
    show ((cfgA a).win (0 : Fin 8)).index t (1 : Fin 2) * 1152 + 1 * j.val = j.val
    rw [e]; show 0 * 1152 + 1 * j.val = _; omega

theorem mat_at_1 (c : Dev nD) (t : Fin (cfgA a).N) (j : Fin 1024) (k : Fin 512) :
    (show S1x1024x512.Idx → Elt F .f32 from iblk m a c (1 : Fin 8) t) (ix3 (0 : Fin 1) j k)
      = (show S16x1024x512.Idx → Elt F .f32 from V m c main_v51) (ix3 (⟨(lit0 (kind f t.val)).toNat, lit0_lt _⟩ : Fin 16) j k) := by
  refine congrArg (V m c main_v51) (funext fun b => Fin.ext ?_)
  have e := index_1 a h hT t
  match b with
  | ⟨0, _⟩ =>
    show ((cfgA a).win (1 : Fin 8)).index t (0 : Fin 3) * 1 + 1 * 0 = (lit0 (kind f t.val)).toNat
    rw [e]; show (lit0 (kind f t.val)).toNat * 1 + 1 * 0 = _; omega
  | ⟨1, _⟩ =>
    show ((cfgA a).win (1 : Fin 8)).index t (1 : Fin 3) * 1024 + 1 * j.val = j.val
    rw [e]; show 0 * 1024 + 1 * j.val = _; omega
  | ⟨2, _⟩ =>
    show ((cfgA a).win (1 : Fin 8)).index t (2 : Fin 3) * 512 + 1 * k.val = k.val
    rw [e]; show 0 * 512 + 1 * k.val = _; omega
theorem mat_at_2 (c : Dev nD) (t : Fin (cfgA a).N) (j : Fin 1024) (k : Fin 512) :
    (show S1x1024x512.Idx → Elt F .f32 from iblk m a c (2 : Fin 8) t) (ix3 (0 : Fin 1) j k)
      = (show S16x1024x512.Idx → Elt F .f32 from V m c main_v52) (ix3 (⟨(lit0 (kind f t.val)).toNat, lit0_lt _⟩ : Fin 16) j k) := by
  refine congrArg (V m c main_v52) (funext fun b => Fin.ext ?_)
  have e := index_2 a h hT t
  match b with
  | ⟨0, _⟩ =>
    show ((cfgA a).win (2 : Fin 8)).index t (0 : Fin 3) * 1 + 1 * 0 = (lit0 (kind f t.val)).toNat
    rw [e]; show (lit0 (kind f t.val)).toNat * 1 + 1 * 0 = _; omega
  | ⟨1, _⟩ =>
    show ((cfgA a).win (2 : Fin 8)).index t (1 : Fin 3) * 1024 + 1 * j.val = j.val
    rw [e]; show 0 * 1024 + 1 * j.val = _; omega
  | ⟨2, _⟩ =>
    show ((cfgA a).win (2 : Fin 8)).index t (2 : Fin 3) * 512 + 1 * k.val = k.val
    rw [e]; show 0 * 512 + 1 * k.val = _; omega
theorem mat_at_3 (c : Dev nD) (t : Fin (cfgA a).N) (j : Fin 512) (k : Fin 1024) :
    (show S1x512x1024.Idx → Elt F .f32 from iblk m a c (3 : Fin 8) t) (ix3 (0 : Fin 1) j k)
      = (show S16x512x1024.Idx → Elt F .f32 from V m c main_v53) (ix3 (⟨(lit0 (kind f t.val)).toNat, lit0_lt _⟩ : Fin 16) j k) := by
  refine congrArg (V m c main_v53) (funext fun b => Fin.ext ?_)
  have e := index_3 a h hT t
  match b with
  | ⟨0, _⟩ =>
    show ((cfgA a).win (3 : Fin 8)).index t (0 : Fin 3) * 1 + 1 * 0 = (lit0 (kind f t.val)).toNat
    rw [e]; show (lit0 (kind f t.val)).toNat * 1 + 1 * 0 = _; omega
  | ⟨1, _⟩ =>
    show ((cfgA a).win (3 : Fin 8)).index t (1 : Fin 3) * 512 + 1 * j.val = j.val
    rw [e]; show 0 * 512 + 1 * j.val = _; omega
  | ⟨2, _⟩ =>
    show ((cfgA a).win (3 : Fin 8)).index t (2 : Fin 3) * 1024 + 1 * k.val = k.val
    rw [e]; show 0 * 1024 + 1 * k.val = _; omega
theorem mat_at_4 (c : Dev nD) (t : Fin (cfgA a).N) (j : Fin 1024) (k : Fin 512) :
    (show S1x1024x512.Idx → Elt F .f32 from iblk m a c (4 : Fin 8) t) (ix3 (0 : Fin 1) j k)
      = (show S16x1024x512.Idx → Elt F .f32 from V m c main_v51) (ix3 (⟨(lit1 (kind f t.val)).toNat, lit1_lt _⟩ : Fin 16) j k) := by
  refine congrArg (V m c main_v51) (funext fun b => Fin.ext ?_)
  have e := index_4 a h hT t
  match b with
  | ⟨0, _⟩ =>
    show ((cfgA a).win (4 : Fin 8)).index t (0 : Fin 3) * 1 + 1 * 0 = (lit1 (kind f t.val)).toNat
    rw [e]; show (lit1 (kind f t.val)).toNat * 1 + 1 * 0 = _; omega
  | ⟨1, _⟩ =>
    show ((cfgA a).win (4 : Fin 8)).index t (1 : Fin 3) * 1024 + 1 * j.val = j.val
    rw [e]; show 0 * 1024 + 1 * j.val = _; omega
  | ⟨2, _⟩ =>
    show ((cfgA a).win (4 : Fin 8)).index t (2 : Fin 3) * 512 + 1 * k.val = k.val
    rw [e]; show 0 * 512 + 1 * k.val = _; omega
theorem mat_at_5 (c : Dev nD) (t : Fin (cfgA a).N) (j : Fin 1024) (k : Fin 512) :
    (show S1x1024x512.Idx → Elt F .f32 from iblk m a c (5 : Fin 8) t) (ix3 (0 : Fin 1) j k)
      = (show S16x1024x512.Idx → Elt F .f32 from V m c main_v52) (ix3 (⟨(lit1 (kind f t.val)).toNat, lit1_lt _⟩ : Fin 16) j k) := by
  refine congrArg (V m c main_v52) (funext fun b => Fin.ext ?_)
  have e := index_5 a h hT t
  match b with
  | ⟨0, _⟩ =>
    show ((cfgA a).win (5 : Fin 8)).index t (0 : Fin 3) * 1 + 1 * 0 = (lit1 (kind f t.val)).toNat
    rw [e]; show (lit1 (kind f t.val)).toNat * 1 + 1 * 0 = _; omega
  | ⟨1, _⟩ =>
    show ((cfgA a).win (5 : Fin 8)).index t (1 : Fin 3) * 1024 + 1 * j.val = j.val
    rw [e]; show 0 * 1024 + 1 * j.val = _; omega
  | ⟨2, _⟩ =>
    show ((cfgA a).win (5 : Fin 8)).index t (2 : Fin 3) * 512 + 1 * k.val = k.val
    rw [e]; show 0 * 512 + 1 * k.val = _; omega
theorem mat_at_6 (c : Dev nD) (t : Fin (cfgA a).N) (j : Fin 512) (k : Fin 1024) :
    (show S1x512x1024.Idx → Elt F .f32 from iblk m a c (6 : Fin 8) t) (ix3 (0 : Fin 1) j k)
      = (show S16x512x1024.Idx → Elt F .f32 from V m c main_v53) (ix3 (⟨(lit1 (kind f t.val)).toNat, lit1_lt _⟩ : Fin 16) j k) := by
  refine congrArg (V m c main_v53) (funext fun b => Fin.ext ?_)
  have e := index_6 a h hT t
  match b with
  | ⟨0, _⟩ =>
    show ((cfgA a).win (6 : Fin 8)).index t (0 : Fin 3) * 1 + 1 * 0 = (lit1 (kind f t.val)).toNat
    rw [e]; show (lit1 (kind f t.val)).toNat * 1 + 1 * 0 = _; omega
  | ⟨1, _⟩ =>
    show ((cfgA a).win (6 : Fin 8)).index t (1 : Fin 3) * 512 + 1 * j.val = j.val
    rw [e]; show 0 * 512 + 1 * j.val = _; omega
  | ⟨2, _⟩ =>
    show ((cfgA a).win (6 : Fin 8)).index t (2 : Fin 3) * 1024 + 1 * k.val = k.val
    rw [e]; show 0 * 1024 + 1 * k.val = _; omega
end

theorem index_7 (t : Fin (cfgA a).N) : ((cfgA a).win (7 : Fin 8)).index t = ![t.val, 0] := by
  show cc0_transform_7 (crd a t) = _
  have ht : t.val < 152 := t.isLt
  unfold cc0_transform_7
  dsimp only
  rw [show ((crd a t) 0).val = t.val from coord t, BitVec.toNat_ofNat, Nat.mod_eq_of_lt (by omega)]
  rfl

/-! The matrices, which the host hands over without their unit axis. -/

theorem after_head {b : DevRef τ sig} (hb : b ∈ args) (c : Dev nD) :
    StableHlo.after [(hostOps0 : List (HloOp τ sig (Elt F))), hostOps0_1, hostOps0_2, hostOps0_3, hostOps0_4, hostOps0_5].flatten (fun b => m (c, b)) b = m (c, b) :=
  StableHlo.after_of_forall_not_mem _ _ fun op hop => by
    obtain ⟨ops, ho, hop⟩ := List.mem_flatten.1 hop
    have : [(hostOps0 : List (HloOp τ sig (Elt F))), hostOps0_1, hostOps0_2, hostOps0_3, hostOps0_4, hostOps0_5].Forall
        fun ops => ops.Forall fun op => ∀ b ∈ args, b ∉ op.writes :=
      ⟨spares_0, spares_1, spares_2, spares_3, spares_4, spares_5⟩
    exact List.forall_iff_forall_mem.1 (List.forall_iff_forall_mem.1 this ops ho) op hop b hb

theorem last_51 (X : Valuation τ sig (Elt F)) : StableHlo.after hostOps0_6 X (Proc.devRef .tc main_v51)
    = shapeCast S16x1024x512 (X (Proc.devRef .tc main_arg2)) shapeCasts_S1x16x1024x512_S16x1024x512 := by
  unfold hostOps0_6
  after_results_simp
  try rfl
theorem last_52 (X : Valuation τ sig (Elt F)) : StableHlo.after hostOps0_6 X (Proc.devRef .tc main_v52)
    = shapeCast S16x1024x512 (X (Proc.devRef .tc main_arg3)) shapeCasts_S1x16x1024x512_S16x1024x512 := by
  unfold hostOps0_6
  after_results_simp
  try rfl
theorem last_53 (X : Valuation τ sig (Elt F)) : StableHlo.after hostOps0_6 X (Proc.devRef .tc main_v53)
    = shapeCast S16x512x1024 (X (Proc.devRef .tc main_arg4)) shapeCasts_S1x16x512x1024_S16x512x1024 := by
  unfold hostOps0_6
  after_results_simp
  try rfl

theorem V_51 (c : Dev nD) : V m c main_v51 = shapeCast S16x1024x512 (m ((c.tc : Thread nD τ).loc main_arg2)) shapeCasts_S1x16x1024x512_S16x1024x512 :=
  (last_51 _).trans (congrArg (fun x => shapeCast S16x1024x512 x shapeCasts_S1x16x1024x512_S16x1024x512) (after_head m (by decide) c))
theorem V_52 (c : Dev nD) : V m c main_v52 = shapeCast S16x1024x512 (m ((c.tc : Thread nD τ).loc main_arg3)) shapeCasts_S1x16x1024x512_S16x1024x512 :=
  (last_52 _).trans (congrArg (fun x => shapeCast S16x1024x512 x shapeCasts_S1x16x1024x512_S16x1024x512) (after_head m (by decide) c))
theorem V_53 (c : Dev nD) : V m c main_v53 = shapeCast S16x512x1024 (m ((c.tc : Thread nD τ).loc main_arg4)) shapeCasts_S1x16x512x1024_S16x512x1024 :=
  (last_53 _).trans (congrArg (fun x => shapeCast S16x512x1024 x shapeCasts_S1x16x512x1024_S16x512x1024) (after_head m (by decide) c))

theorem cast_at (A : FVec Ideal S1x16x1024x512 .f32) (e : Fin 16) (j : Fin 1024) (k : Fin 512) :
    shapeCast S16x1024x512 A shapeCasts_S1x16x1024x512_S16x1024x512 (ix3 e j k) = A (ix4 (0 : Fin 1) e j k) := by
  pointwise
theorem cast_at' (A : FVec Ideal S1x16x512x1024 .f32) (e : Fin 16) (j : Fin 512) (k : Fin 1024) :
    shapeCast S16x512x1024 A shapeCasts_S1x16x512x1024_S16x512x1024 (ix3 e j k) = A (ix4 (0 : Fin 1) e j k) := by
  pointwise

end Cert.ExpertsIdeal.Body

end
-- ==== Proof.Output.lean ====
module

public import proofs.«01_k».proof.Proof.ArrayValue

@[expose] public section

set_option maxRecDepth 16384

/-!
# The output array over the extended reals

After the run an entry of the output is the reference's entry: the two experts of its row's class, weighted.
-/

noncomputable section

namespace Cert.ExpertsIdeal.Body

open Cert.ExpertsIdeal Cert.ExpertsIdeal.Gen
open Idealize.ShloMosaic Idealize.ShloMosaic.TcCoe Idealize.ShloMosaic.Tactic
open Cert.Classes Cert.Formula Cert.ExpertsIdeal.Table
open Idealize.ShloMosaic.Pipeline (Dat)

/-- The lower expert of row `p`. -/
abbrev lo (f : ℕ → ℕ) (p : ℕ) : Fin 16 := ⟨(lit0 ⟨cls f p, cls_lt f p⟩).toNat, lit0_lt _⟩
/-- The higher expert of row `p`. -/
abbrev hi (f : ℕ → ℕ) (p : ℕ) : Fin 16 := ⟨(lit1 ⟨cls f p, cls_lt f p⟩).toNat, lit1_lt _⟩

/-- The output array. -/
def outG (f : ℕ → ℕ) (X : FVec Ideal S77824x1152 .f32) (A B : FVec Ideal S1x16x1024x512 .f32) (D : FVec Ideal S1x16x512x1024 .f32) : FVec Ideal S77824x1024 .f32 :=
  fun i => DenseIdeal.Row.rowVal f X A B D (lo f (i 0).val) (hi f (i 0).val) (i 0) (i 1)

variable (m : (ℓ : Loc nD τ sig) → Buf (Elt Ideal) ℓ) (a : (p : Fin 1) → (pcfgs (F := Ideal) p).Adm)

abbrev argX (c : Dev nD) : FVec Ideal S77824x1152 .f32 := m ((c.tc : Thread nD τ).loc main_arg1)
abbrev argA (c : Dev nD) : FVec Ideal S1x16x1024x512 .f32 := m ((c.tc : Thread nD τ).loc main_arg2)
abbrev argB (c : Dev nD) : FVec Ideal S1x16x1024x512 .f32 := m ((c.tc : Thread nD τ).loc main_arg3)
abbrev argD (c : Dev nD) : FVec Ideal S1x16x512x1024 .f32 := m ((c.tc : Thread nD τ).loc main_arg4)

/-- The rows' weights are not negative and finite. -/
def Weights (X : FVec Ideal S77824x1152 .f32) : Prop :=
  ∀ p : Fin 77824, (0 ≤ X (ix2 p (⟨1024, by omega⟩ : Fin 1152)) ∧ X (ix2 p (⟨1024, by omega⟩ : Fin 1152)) ≠ ⊤)
    ∧ (0 ≤ X (ix2 p (⟨1025, by omega⟩ : Fin 1152)) ∧ X (ix2 p (⟨1025, by omega⟩ : Fin 1152)) ≠ ⊤)

theorem tile_of (x0 : FVec Ideal S512x1152 .f32) (x1 x2 : FVec Ideal S1x1024x512 .f32) (x3 : FVec Ideal S1x512x1024 .f32) (x4 x5 : FVec Ideal S1x1024x512 .f32)
    (x6 : FVec Ideal S1x512x1024 .f32) (r : Fin 512) (d : Fin 1024) (X : FVec Ideal S77824x1152 .f32) (hW : Weights X) (p : Fin 77824)
    (hx : ∀ j : Fin 1152, x0 (ix2 r j) = X (ix2 p j)) {A1 B1 A2 B2 : Fin 1024 → Fin 512 → EReal} {D1 D2 : Fin 512 → Fin 1024 → EReal}
    (h1 : sq x1 = A1) (h2 : sq x2 = B1) (h3 : sq' x3 = D1) (h4 : sq x4 = A2) (h5 : sq x5 = B2) (h6 : sq' x6 = D2) :
    tile (F := Ideal) x0 x1 x2 x3 x4 x5 x6 (ix2 r d)
      = X (ix2 p (⟨1024, by omega⟩ : Fin 1152)) * outAt (DenseIdeal.Row.rowOf X p) A1 B1 D1 d
        + X (ix2 p (⟨1025, by omega⟩ : Fin 1152)) * outAt (DenseIdeal.Row.rowOf X p) A2 B2 D2 d := by
  have hrow : rowOf x0 r = DenseIdeal.Row.rowOf X p := funext fun j => hx _
  have e := tile_at x0 x1 x2 x3 x4 x5 x6 r d (by rw [hx]; exact (hW p).1.1) (by rw [hx]; exact (hW p).1.2) (by rw [hx]; exact (hW p).2.1)
    (by rw [hx]; exact (hW p).2.2)
  rw [hx, hx, hrow, h1, h2, h3, h4, h5, h6] at e
  exact e

theorem flush_7 (t : Fin (cfgA a).N) : ((cfgA a).win (7 : Fin 8)).flush t = true := by
  rw [Pipeline.Window.flush_eq_flushOf]
  unfold Pipeline.Window.flushOf
  have ho : ((cfgA a).win (7 : Fin 8)).isOut = true := rfl
  rw [ho, Bool.true_and, Bool.or_eq_true]
  have ht : t.val < 152 := t.isLt
  by_cases hl : t.val + 1 = 152
  · exact .inl (decide_eq_true (show t.val + 1 = (cfgA a).grid.N from hl))
  · have hn : t.val + 1 < (cfgA a).grid.N := show t.val + 1 < 152 by omega
    refine .inr (decide_eq_true ⟨hn, fun hh => ?_⟩)
    have h1 : ((cfgA a).win (7 : Fin 8)).index ⟨t.val + 1, hn⟩ = ((cfgA a).win (7 : Fin 8)).index t := hh
    rw [index_7, index_7] at h1
    have h2 : t.val + 1 = t.val := congrFun h1 (0 : Fin 2)
    omega

theorem emb_7 (t : Fin (cfgA a).N) (r : Fin 512) (d : Fin 1024) (hp : t.val * 512 + r.val < 77824) :
    (((cfgA a).win (7 : Fin 8)).blk t).view.emb (ix2 r d : S512x1024.Idx) = (ix2 (⟨t.val * 512 + r.val, hp⟩ : Fin 77824) d : S77824x1024.Idx) := by
  have e := index_7 a t
  refine funext fun b => Fin.ext ?_
  match b with
  | ⟨0, _⟩ =>
    show ((cfgA a).win (7 : Fin 8)).index t (0 : Fin 2) * 512 + 1 * r.val = t.val * 512 + r.val
    rw [e]; show t.val * 512 + 1 * r.val = _; omega
  | ⟨1, _⟩ =>
    show ((cfgA a).win (7 : Fin 8)).index t (1 : Fin 2) * 1024 + 1 * d.val = d.val
    rw [e]; show 0 * 1024 + 1 * d.val = _; omega

section
variable {f : ℕ → ℕ} (h : Sizes f) (hT : TableOf f ((a 0).1 (0 : Fin 1)))
include h hT

theorem kind_row (t r : ℕ) (hr : r < 512) : kind f t = ⟨cls f (row f t * 512 + r), cls_lt _ _⟩ :=
  Fin.ext (by
    show cls f (512 * row f t) = cls f (row f t * 512 + r)
    rw [← cls_tile f (row f t * 512 + r), show (row f t * 512 + r) / 512 = row f t by omega])

theorem tile_row (c : Dev nD) (hW : Weights (argX m c)) (t : Fin (cfgA a).N) (r : Fin 512) (d : Fin 1024) (p : Fin 77824) (hp : p.val = row f t.val * 512 + r.val) :
    tile (F := Ideal) (iblk m a c (0 : Fin 8) t) (iblk m a c (1 : Fin 8) t) (iblk m a c (2 : Fin 8) t) (iblk m a c (3 : Fin 8) t)
        (iblk m a c (4 : Fin 8) t) (iblk m a c (5 : Fin 8) t) (iblk m a c (6 : Fin 8) t) (ix2 r d)
      = argX m c (ix2 p (⟨1024, by omega⟩ : Fin 1152)) * outAt (DenseIdeal.Row.rowOf (argX m c) p) (DenseIdeal.Row.sq (argA m c) (lo f p.val))
          (DenseIdeal.Row.sq (argB m c) (lo f p.val)) (DenseIdeal.Row.sq' (argD m c) (lo f p.val)) d
        + argX m c (ix2 p (⟨1025, by omega⟩ : Fin 1152)) * outAt (DenseIdeal.Row.rowOf (argX m c) p) (DenseIdeal.Row.sq (argA m c) (hi f p.val))
          (DenseIdeal.Row.sq (argB m c) (hi f p.val)) (DenseIdeal.Row.sq' (argD m c) (hi f p.val)) d := by
  have hk : kind f t.val = ⟨cls f p.val, cls_lt _ _⟩ := by
    rw [kind_row (f := f) a h hT t.val r.val r.isLt]; exact Fin.ext (by rw [hp])
  have hx : ∀ j : Fin 1152, (show S512x1152.Idx → EReal from iblk m a c (0 : Fin 8) t) (ix2 r j) = argX m c (ix2 p j) := fun j => by
    refine (rows_at m a h hT c t r j).trans ?_
    rw [(V_arg m c).2.1]
    exact congrArg (argX m c) (congrArg (fun q : Fin 77824 => ix2 q j) (Fin.ext hp.symm))
  have h1 : sq (iblk m a c (1 : Fin 8) t) = DenseIdeal.Row.sq (argA m c) (lo f p.val) := funext fun j => funext fun k => by
    refine (mat_at_1 m a h hT c t j k).trans ?_
    rw [V_51]; simp only [hk]; exact cast_at _ _ _ _
  have h2 : sq (iblk m a c (2 : Fin 8) t) = DenseIdeal.Row.sq (argB m c) (lo f p.val) := funext fun j => funext fun k => by
    refine (mat_at_2 m a h hT c t j k).trans ?_
    rw [V_52]; simp only [hk]; exact cast_at _ _ _ _
  have h3 : sq' (iblk m a c (3 : Fin 8) t) = DenseIdeal.Row.sq' (argD m c) (lo f p.val) := funext fun j => funext fun k => by
    refine (mat_at_3 m a h hT c t j k).trans ?_
    rw [V_53]; simp only [hk]; exact cast_at' _ _ _ _
  have h4 : sq (iblk m a c (4 : Fin 8) t) = DenseIdeal.Row.sq (argA m c) (hi f p.val) := funext fun j => funext fun k => by
    refine (mat_at_4 m a h hT c t j k).trans ?_
    rw [V_51]; simp only [hk]; exact cast_at _ _ _ _
  have h5 : sq (iblk m a c (5 : Fin 8) t) = DenseIdeal.Row.sq (argB m c) (hi f p.val) := funext fun j => funext fun k => by
    refine (mat_at_5 m a h hT c t j k).trans ?_
    rw [V_52]; simp only [hk]; exact cast_at _ _ _ _
  have h6 : sq' (iblk m a c (6 : Fin 8) t) = DenseIdeal.Row.sq' (argD m c) (hi f p.val) := funext fun j => funext fun k => by
    refine (mat_at_6 m a h hT c t j k).trans ?_
    rw [V_53]; simp only [hk]; exact cast_at' _ _ _ _
  exact tile_of _ _ _ _ _ _ _ r d (argX m c) hW p hx h1 h2 h3 h4 h5 h6

theorem step_out (c : Dev nD) (hW : Weights (argX m c)) (t : Fin (cfgA a).N) (r : Fin 512) (d : Fin 1024) (p : Fin 77824) (hp : p.val = t.val * 512 + r.val) :
    outblk m a c t (ix2 r d) = outG f (argX m c) (argA m c) (argB m c) (argD m c) (ix2 p d) := by
  have hdvd : ends f 23 = 512 * tiles f := (Nat.mul_div_cancel' (dvd_ends f 23)).symm
  have hc := computes h (a 0).1 hT (crd a t)
  rw [show ((crd a t) 0).val = t.val from coord t] at hc
  unfold outblk outG DenseIdeal.Row.rowVal
  by_cases ht : t.val < tiles f
  · rw [if_pos (hc.2 ht)]
    have hp' : (ix2 p d (0 : Fin 2)).val < ends f 23 := by show p.val < _; omega
    rw [if_pos hp']
    exact tile_row m a h hT c hW t r d p (by rw [hp, show row f t.val = t.val by unfold row; omega])
  · rw [if_neg fun hh => ht (hc.1 hh)]
    have hp' : ¬ (ix2 p d (0 : Fin 2)).val < ends f 23 := by show ¬ p.val < _; omega
    rw [if_neg hp']
    pointwise [k0_pay2]

theorem point_7 (c : Dev nD) (hW : Weights (argX m c)) (t : Fin (cfgA a).N) (y : S512x1024.Idx) :
    outblk m a c t y = outG f (argX m c) (argA m c) (argB m c) (argD m c) ((((cfgA a).win (7 : Fin 8)).blk t).view.emb y) := by
  idx_vars y
  have ht : t.val < 152 := t.isLt
  have hp : t.val * 512 + y0.val < 77824 := by omega
  exact (step_out m a h hT c hW t y0 y1 ⟨_, hp⟩ rfl).trans (congrArg (outG f (argX m c) (argA m c) (argB m c) (argD m c)) (emb_7 a t y0 y1 hp).symm)

theorem final (c : Dev nD) (hW : Weights (argX m c)) :
    (dat m a c).arrAt (7 : Fin 8) (cfgA a).N = outG f (argX m c) (argA m c) (argB m c) (argD m c) := by
  refine (dat m a c).arrAt_eq_of_emb (7 : Fin 8) _ (fun t _ y => ?_) fun i => ?_
  · rw [after_7]
    blk_simp
    exact point_7 m a h hT c hW t y
  · have hi : (i (0 : Fin 2)).val < 77824 := (i (0 : Fin 2)).isLt
    have hN : (i (0 : Fin 2)).val / 512 < (cfgA a).N := show (i (0 : Fin 2)).val / 512 < 152 by omega
    refine ⟨⟨(i (0 : Fin 2)).val / 512, hN⟩, flush_7 a _, ?_⟩
    refine (Pipeline.Window.emb_mem_blk_iff ((cfgA a).win (7 : Fin 8)) _ i rfl).2 fun b => ?_
    rw [index_7]
    match b with
    | ⟨0, _⟩ =>
      show (i (0 : Fin 2)).val / 512 * 512 ≤ (i (0 : Fin 2)).val ∧ (i (0 : Fin 2)).val < (i (0 : Fin 2)).val / 512 * 512 + 512
      omega
    | ⟨1, _⟩ =>
      show 0 * 1024 ≤ (i (1 : Fin 2)).val ∧ (i (1 : Fin 2)).val < 0 * 1024 + 1024
      have : (i (1 : Fin 2)).val < 1024 := (i (1 : Fin 2)).isLt
      omega
end

end Cert.ExpertsIdeal.Body

end
-- ==== Proof.Agree.lean ====
module

public import proofs.«01_k».proof.Proof.Output
public import proofs.«01_k».proof.Proof.Run
public import Idealize.ShloMosaic.Lib.IdealHost

@[expose] public section

set_option maxRecDepth 16384

/-!
# The two programs' results

The precondition bounds the rows' weights; under it the kernel's output and the reference's are one array.
-/

noncomputable section

namespace Cert.ExpertsIdeal.Body

open Cert.ExpertsIdeal Cert.ExpertsIdeal.Gen
open Idealize.ShloMosaic Idealize.ShloMosaic.TcCoe Idealize.ShloMosaic.Tactic
open Cert.Classes Cert.Formula Cert.ExpertsIdeal.Table

/-- A number that compares from zero up and below infinity. -/
theorem between {x : EReal} (h0 : Ideal.cmp .oge x 0 = 1#1) (h1 : Ideal.cmp .olt x ⊤ = 1#1) : 0 ≤ x ∧ x ≠ ⊤ := by
  have e0 : (0 : EReal) ≤ x := by
    by_contra h
    simp [Ideal.cmp, h] at h0
  refine ⟨e0, fun h => ?_⟩
  simp [Ideal.cmp, h] at h1

theorem infinity : Ideal.ofBits .f32 0x7F800000#32 = ⊤ := by simp [Ideal.ofBits, Ideal.ieee]

theorem weight_at [Pre_routed.Facts] (C X A B D) (h : Pre_routed.fn (F := Ideal) C X A B D = fun _ => 1#1) (p : Fin 77824) (q : Fin 2) :
    0 ≤ X (ix2 p (⟨1024 + q.val, by omega⟩ : Fin 1152)) ∧ X (ix2 p (⟨1024 + q.val, by omega⟩ : Fin 1152)) ≠ ⊤ := by
  have hh := and_bits (and_bits (congrFun h (ix2 p q))).1
  have e : extractStridedSlice Pre_routed.S77824x2 ![0, 1024] X Pre_routed.Facts.slices_S77824x1152_S77824x2_0_1024 (ix2 p q)
      = X (ix2 p (⟨1024 + q.val, by omega⟩ : Fin 1152)) := by
    pointwise
  have h0 : Ideal.cmp .oge (extractStridedSlice Pre_routed.S77824x2 ![0, 1024] X Pre_routed.Facts.slices_S77824x1152_S77824x2_0_1024 (ix2 p q)) (Ideal.ofBits .f32 0x00000000#32) = 1#1 := hh.1
  have h1 : Ideal.cmp .olt (extractStridedSlice Pre_routed.S77824x2 ![0, 1024] X Pre_routed.Facts.slices_S77824x1152_S77824x2_0_1024 (ix2 p q)) (Ideal.ofBits .f32 0x7F800000#32) = 1#1 := hh.2
  rw [e, Ideal.ofBits_zero_f32] at h0
  rw [e, infinity] at h1
  exact between h0 h1

theorem weights_of [Pre_routed.Facts] (C X A B D) (h : Pre_routed.fn (F := Ideal) C X A B D = fun _ => 1#1) : Weights X :=
  fun p => ⟨weight_at C X A B D h p 0, weight_at C X A B D h p 1⟩

theorem same_0 : ∀ q : Fin 24, DenseIdeal.lit0 q = BitVec.ofNat 32 (lit0 q).toNat := by decide
theorem same_1 : ∀ q : Fin 24, DenseIdeal.lit1 q = BitVec.ofNat 32 (lit1 q).toNat := by decide

/-- The reference's array, at counts that are the sizes of the classes. -/
theorem dense_eq (C : IVec S24 32) (h : Sizes (sizes C)) (X : FVec Ideal S77824x1152 .f32) (A B : FVec Ideal S1x16x1024x512 .f32)
    (D : FVec Ideal S1x16x512x1024 .f32) : DenseIdeal.Row.dense (F := Ideal) C X A B D = outG (sizes C) X A B D := by
  funext i
  have hdvd : ends (sizes C) 23 = 512 * tiles (sizes C) := (Nat.mul_div_cancel' (dvd_ends _ 23)).symm
  have hle := h.tiles_le
  have hC := sizes_holds C
  idx_vars i
  exact DenseIdeal.Row.dense_at h.le (by omega) C hC X A B D i0 i1 (lo (sizes C) i0.val) (hi (sizes C) i0.val)
    (fun e => absurd (congrArg Fin.val e) (Nat.ne_of_lt (lit_lt _))) (same_0 _) (same_1 _)

/-- The kernel's run with its output. -/
theorem run_out (m : (ℓ : Loc nD τ sig) → Buf (Elt Ideal) ℓ) (ρ : Dev nD → PrngReg) (h : Sizes (sizes (counts m 0)))
    (hW : ∀ c, Weights (argX m c)) :
    θ_run (defs (F := Ideal)) (onTc main) ⟨m, fun _ => 0, ρ⟩ fun r => ∀ c : Dev nD,
      r.2.mem ((c.tc : Thread nD τ).loc main_v54) = outG (sizes (counts m 0)) (argX m c) (argA m c) (argB m c) (argD m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run (defs (F := Ideal)) _ _).mono
    (fun _ hr c => ⟨(hr.1 c).1.trans (final m (adm m h) h (contents_table m h) c (hW c)), (hr.1 c).2⟩) (run_main m ρ h)

end Cert.ExpertsIdeal.Body

end
-- ==== Proof.MixerIdeal.Base.lean ====
module

public import proofs.«01_k».proof.Proof.Gen.MixerIdeal.Skeleton
public import proofs.«01_k».proof.Proof.Gen.MixerIdeal.Frame
public import Idealize.ShloMosaic.Lib.Pipeline.Kit
public import Idealize.ShloMosaic.Lib.Pipeline.Frame
public import Idealize.ShloMosaic.Lib.Batch
public import Idealize.ShloMosaic.Lib.Exec
public import Idealize.ShloMosaic.Lib.Tactic
public import Idealize.ShloMosaic.Adequacy
public import Idealize.ShloMosaic.Init

@[expose] public section

set_option Elab.async false

/-!
# What a piece of the mixer's body keeps

`Does c P p Q`: from `P` the program `p` runs to its end and leaves `Q`. A piece that only loads and stores memory
named in `R` leaves `R` (`Does.load`, `Does.store`): `R` says which memory is held, not what it holds.
-/

noncomputable section

namespace Cert.MixerIdeal.Body

open Cert.MixerIdeal Cert.MixerIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- From `P` the program runs and leaves `Q`. -/
def Does (c : Dev nD) (P : sProp 𝕄) {α : Type} (p : Prog (TpuEff nD τ sig (Elt F) Λ₀ .tc) α) (Q : sProp 𝕄) : Prop :=
  P ⊢ wp frame (wpE (defs₀ (F := F)) Variants.none (c : Thread nD τ) none) Set.univ p (fun _ => Q)

/-- `R` holds what the memref reads at some share. -/
class Reads (c : Dev nD) (R : sProp 𝕄) {sp : Space} {s : Shape} {e : EltTy} (m : Memref sig .tc sp s e) : Prop where
  take : ∃ q : PosShare TreeShare, R ⊢ iprop(∃ f, (m.view.loc (c : Thread nD τ) ↦[m.view.set]{q} f)
    ∗ ((m.view.loc (c : Thread nD τ) ↦[m.view.set]{q} f) -∗ R))

/-- `R` holds the memref in full and does not say at which contents. -/
class Writes (c : Dev nD) (R : sProp 𝕄) {sp : Space} {s : Shape} {e : EltTy} (m : Memref sig .tc sp s e) : Prop where
  take : R ⊢ iprop(∃ f, (m.view.loc (c : Thread nD τ) ↦[m.view.set]{fullShare} f)
    ∗ (∀ g, (m.view.loc (c : Thread nD τ) ↦[m.view.set]{fullShare} g) -∗ R))

instance Writes.reads (c : Dev nD) (R : sProp 𝕄) {sp : Space} {s : Shape} {e : EltTy} (m : Memref sig .tc sp s e)
    [h : Writes c R m] : Reads c R m where
  take := ⟨fullShare, by
    iintro HR
    ihave H := h.take $$ HR
    icases H with ⟨%f, Hf, Hk⟩
    iexists f
    isplitl [Hf]; · iexact Hf
    iintro Hf
    ispecialize Hk $$ %f
    iapply Hk; iexact Hf⟩

section
variable {c : Dev nD} {P Q R : sProp (MT nD τ sig Unit (Elt F) ℕ (Pipeline.UD sig nD τ) ℕ)} {α β : Type}

theorem Does.bind {p : Prog (TpuEff nD τ sig (Elt F) Λ₀ .tc) α} {k : α → Prog (TpuEff nD τ sig (Elt F) Λ₀ .tc) β}
    (h : Does c P p Q) (h' : ∀ x, Does c Q (k x) R) : Does c P (p >>= k) R := by
  unfold Does; rw [wp_bind]
  exact BIBase.Entails.trans h (wp_mono _ _ _ h')

theorem Does.pure (a : α) : Does c P (Pure.pure a : Prog (TpuEff nD τ sig (Elt F) Λ₀ .tc) α) P := by
  unfold Does; rw [wp_pure]
  iintro H; imodintro; iexact H

theorem Does.frame {p : Prog (TpuEff nD τ sig (Elt F) Λ₀ .tc) α} (h : Does c P p Q) : Does c iprop(P ∗ R) p iprop(Q ∗ R) :=
  (sep_mono_left h).trans (wp_frame_r _ _ _)

theorem Does.conseq {P' Q' : sProp 𝕄} {p : Prog (TpuEff nD τ sig (Elt F) Λ₀ .tc) α} (h : Does c P p Q) (hP : P' ⊢ P) (hQ : Q ⊢ Q') :
    Does c P' p Q' :=
  hP.trans (BIBase.Entails.trans h (wp_mono _ _ _ fun _ => hQ))

theorem Does.ite {b : Prop} [Decidable b] {p : b → Prog (TpuEff nD τ sig (Elt F) Λ₀ .tc) α} {p' : ¬ b → Prog (TpuEff nD τ sig (Elt F) Λ₀ .tc) α}
    (h : ∀ hb, Does c P (p hb) Q) (h' : ∀ hb, Does c P (p' hb) Q) : Does c P (if hb : b then p hb else p' hb) Q := by
  by_cases hb : b
  · rw [dif_pos hb]; exact h hb
  · rw [dif_neg hb]; exact h' hb

theorem Does.load {cs : CoreSpace} {s : Shape} {e : EltTy} {m : Memref sig .tc cs s e} [hr : Reads c R m] {r : LoadRect s} {hl : m.view.LoadsAt r} :
    Does c R (Prog.lift (.load m r hl)) R := by
  obtain ⟨q, hq⟩ := hr.take
  unfold Does
  iintro HR
  ihave H := hq $$ HR
  icases H with ⟨%f, Hf, Hk⟩
  iapply (wp_load Variants.none (c : Thread nD τ) none Set.univ (m := m) (r := r) (S := m.view.set) (q := q) (f := f) (View.setOn_subset_set _ _)) $$ Hf
  iintro Hf
  rw [wp_ret]
  imodintro
  iapply Hk; iexact Hf

theorem Does.store {cs : CoreSpace} {s : Shape} {e : EltTy} {m : Memref sig .tc cs s e} [hr : Writes c R m] {r : Rect s} {w : r.shape.Idx → Elt F e}
    {Mk : Finset r.shape.Idx} {hx : (m.access r).Stores Mk} {hm : Mk = Finset.univ ∨ ∀ a, r.stride a = 1} :
    Does c R (Prog.lift (.store m r w Mk hx hm)) R := by
  unfold Does
  iintro HR
  ihave H := hr.take $$ HR
  icases H with ⟨%f, Hf, Hk⟩
  iapply (wp_store Variants.none (c : Thread nD τ) none Set.univ (m := m) (r := r) (S := m.view.set) (f := f)
    ((View.setOn_subset_set _ _).trans (View.set_slice_subset _ _))) $$ Hf
  iintro Hf
  rw [wp_ret]
  imodintro
  iapply Hk; iexact Hf

end

end Cert.MixerIdeal.Body

end
-- ==== Proof.MixerIdeal.Slots.lean ====
module

public import proofs.«01_k».proof.Proof.MixerIdeal.Base

@[expose] public section

set_option maxRecDepth 16384
set_option Elab.async false

/-!
# The two slots of the mixer's token buffer

A slot is filled by eight copies, one per sequence, counted together on the slot's one semaphore cell. Between two
steps a slot is either `Free`, or `Flying`: its eight copies issued and none of them waited for.
-/

noncomputable section

namespace Cert.MixerIdeal.Body

open Cert.MixerIdeal Cert.MixerIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The token buffer: two slots of 64 positions of 8 sequences. -/
abbrev XB : Memref sig .tc .vmem S2x64x8x1024 .f32 := Memref.whole cc0_scratch0
/-- The tokens, where they lie. -/
abbrev XA : Memref sig .tc .hbm S16x4096x1024 .f32 := Memref.whole main_arg0

theorem cell_inb (s : Fin 2) : ∀ a, (![s.val] : Fin 1 → Nat) a + S1.size a ≤ S2.size a := by
  revert s; decide

/-- The semaphore cell of a slot. -/
def cell (s : Fin 2) : DmaSem sig :=
  ((cc0_scratch1.slice (Rect.unit (s := S2) ![s.val] S1.size (cell_inb s))).squeeze S_ squeezes_S1_S_).sem

theorem cell_of (s : Fin 2) (o : Fin 1 → Nat) (h : o = ![s.val]) (p : ∀ a, o a + S1.size a ≤ S2.size a) :
    ((cc0_scratch1.slice (Rect.unit (s := S2) o S1.size p)).squeeze S_ squeezes_S1_S_).sem = cell s := by
  subst h; rfl

/-- The destination of a copy, by its offsets. -/
abbrev dstAt (o : Fin 4 → Nat) (p : ∀ a, o a + S1x64x1x1024.size a ≤ S2x64x8x1024.size a) : Memref sig .tc .vmem S64x1024 .f32 :=
  (XB.slice (Rect.unit (s := S2x64x8x1024) o S1x64x1x1024.size p) (fun _ => rfl)).squeeze S64x1024 squeezes_S1x64x1x1024_S64x1024

/-- The source of a copy, by its offsets. -/
abbrev srcAt (o : Fin 3 → Nat) (p : ∀ a, o a + S1x64x1024.size a ≤ S16x4096x1024.size a) : Memref sig .tc .hbm S64x1024 .f32 :=
  (XA.slice (Rect.unit (s := S16x4096x1024) o S1x64x1024.size p) (fun _ => rfl)).squeeze S64x1024 squeezes_S1x64x1024_S64x1024

/-- A slot of the buffer. -/
def slot (s : Fin 2) : Finset S2x64x8x1024.Idx := Finset.univ.filter fun i => (i 0).val = s.val
/-- One sequence's part of a slot. -/
def part (s : Fin 2) (b : Fin 8) : Finset S2x64x8x1024.Idx := Finset.univ.filter fun i => (i 0).val = s.val ∧ (i 2).val = b.val

theorem slot_parts (s : Fin 2) : Finset.univ.biUnion (part s) = slot s := by
  ext i
  simp only [slot, part, Finset.mem_biUnion, Finset.mem_univ, true_and, Finset.mem_filter]
  constructor
  · rintro ⟨b, h, -⟩; exact h
  · intro h; exact ⟨⟨(i 2).val, (i 2).isLt⟩, h, rfl⟩

theorem parts_disjoint (s : Fin 2) : ∀ b ∈ (Finset.univ : Finset (Fin 8)), ∀ b' ∈ (Finset.univ : Finset (Fin 8)), b ≠ b' → Disjoint (part s b) (part s b') := by
  intro b _ b' _ h
  rw [Finset.disjoint_left]
  intro i hi hi'
  simp only [part, Finset.mem_univ, true_and, Finset.mem_filter] at hi hi'
  exact h (Fin.ext (hi.2.symm.trans hi'.2))

theorem slots_disjoint : Disjoint (slot 0) (slot 1) := by
  rw [Finset.disjoint_left]
  intro i hi hi'
  simp only [slot, Finset.mem_univ, true_and, Finset.mem_filter] at hi hi'
  simp [hi] at hi'

theorem slots_cover : slot 0 ∪ slot 1 = Finset.univ := by
  ext i
  simp only [slot, Finset.mem_union, Finset.mem_univ, true_and, Finset.mem_filter, iff_true]
  have h : (i 0).val < 2 := (i 0).isLt
  show (i 0).val = 0 ∨ (i 0).val = 1
  omega

theorem dst_subset (s : Fin 2) (b : Fin 8) (o : Fin 4 → Nat) (h : o = ![s.val, 0, b.val, 0]) (p) :
    (dstAt o p).view.set ⊆ part s b := by
  subst h
  intro i hi
  simp only [dstAt, Memref.view_squeeze, View.set_reshape, Memref.view_slice, Memref.view_whole, View.set_slice_whole, Rect.mem_set_unit] at hi
  simp only [part, Finset.mem_univ, true_and, Finset.mem_filter]
  have h0 := hi 0
  have h2 := hi 2
  change s.val ≤ (i 0).val ∧ (i 0).val < s.val + 1 at h0
  change b.val ≤ (i 2).val ∧ (i 2).val < b.val + 1 at h2
  omega

/-- The credit of one copy. -/
def credit : ℕ := (dstAt ![0, 0, 0, 0] (by decide)).view.dmaCredit

theorem credit_pos : 0 < credit := View.dmaCredit_pos _ (by decide)

end Cert.MixerIdeal.Body

end
-- ==== Proof.MixerIdeal.Copies.lean ====
module

public import proofs.«01_k».proof.Proof.MixerIdeal.Slots

@[expose] public section

set_option maxRecDepth 16384
set_option Elab.async false

/-!
# Issuing and awaiting a slot's eight copies
-/

noncomputable section

namespace Cert.MixerIdeal.Body

open Cert.MixerIdeal Cert.MixerIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

section
variable (c : Dev nD) (V : Buf (Elt F) ((XA.view.loc (c : Thread nD τ)) : Loc nD τ sig))

theorem both (Φ Ψ : Fin 8 → sProp (MT nD τ sig Unit (Elt F) ℕ (Pipeline.UD sig nD τ) ℕ)) :
    bigSep Finset.univ (fun b => iprop(Φ b ∗ Ψ b)) = iprop(bigSep Finset.univ Φ ∗ bigSep Finset.univ Ψ) := bigSep_sep _ _ _

theorem keep (l l' : Loc nD τ sig) (S : Finset (Idx l)) (S' : Finset (Idx l')) (q q' : PosShare TreeShare) (v : Buf (Elt F) l') :
    Storable (upEmb : UEmb _ (MT nD τ sig Unit (Elt F) ℕ (Pipeline.UD sig nD τ) ℕ)) iprop((∃ f, l ↦[S]{q} f) ∗ (l' ↦[S']{q'} v)) := by
  infer_instance

/-- The share of the tokens lent to a slot. -/
def lent (s : Fin 2) : PosShare TreeShare := shareTok fullShare 2 s

/-- What one copy delivers: its part of the slot, and its reading of the tokens. -/
def D (s : Fin 2) (σ : Fin 8 → Finset S16x4096x1024.Idx) (b : Fin 8) : sProp 𝕄 :=
  iprop((∃ f, XB.view.loc (c : Thread nD τ) ↦[part s b]{fullShare} f) ∗ (XA.view.loc (c : Thread nD τ) ↦[σ b]{shareTok (lent s) 8 b} V))

instance (s : Fin 2) (σ : Fin 8 → Finset S16x4096x1024.Idx) (b : Fin 8) : Storable (upEmb : UEmb _ 𝕄) (D c V s σ b) := by
  unfold D; exact keep _ _ _ _ _ _ _

/-- The rest of a slot's reading. -/
def Rest (s : Fin 2) (σ : Fin 8 → Finset S16x4096x1024.Idx) : sProp 𝕄 :=
  iprop((XA.view.loc (c : Thread nD τ) ↦{shareDrop (lent s) 8} V)
    ∗ bigSep Finset.univ (fun b : Fin 8 => (XA.view.loc (c : Thread nD τ) ↦[Finset.univ \ σ b]{shareTok (lent s) 8 b} V)))

def Free (s : Fin 2) : sProp 𝕄 :=
  iprop(semVal ((c : Thread nD τ), .dma (cell s)) 0 ∗ (∃ f, XB.view.loc (c : Thread nD τ) ↦[slot s]{fullShare} f)
    ∗ (XA.view.loc (c : Thread nD τ) ↦{lent s} V))

/-- A batch with `j` copies issued, `u` units waited for. -/
abbrev Bat (s : Fin 2) (σ : Fin 8 → Finset S16x4096x1024.Idx) (j u : ℕ) : sProp 𝕄 :=
  Batch (n := 8) (countersEmb) (c : Thread nD τ) (.dma (cell s)) () credit (D c V s σ) j u

def Flying (s : Fin 2) : sProp 𝕄 :=
  iprop(∃ σ, Bat c V s σ 8 0 ∗ Rest c V s σ)

/-- A slot with `j` of its copies issued. -/
def Issuing (s : Fin 2) (σ : Fin 8 → Finset S16x4096x1024.Idx) (j : ℕ) : sProp 𝕄 :=
  iprop(Bat c V s σ j 0 ∗ bigSep (pending j) (D c V s σ))

theorem lend (s : Fin 2) (σ : Fin 8 → Finset S16x4096x1024.Idx) :
    iprop((∃ f, XB.view.loc (c : Thread nD τ) ↦[slot s]{fullShare} f) ∗ (XA.view.loc (c : Thread nD τ) ↦{lent s} V))
      ⊢ (iprop(bigSep Finset.univ (D c V s σ) ∗ Rest c V s σ) : sProp 𝕄) := by
  iintro ⟨⟨%f, Hf⟩, Hx⟩
  ihave Hp := (Entails.of_eq (Ring.pointsTo_sub_blocks (part s) (fun b b' h => parts_disjoint s b (Finset.mem_univ _) b' (Finset.mem_univ _) h) (slot s) (slot_parts s) f)) $$ Hf
  ihave Hx2 := (pointsTo_toks_split (lent s) 8) $$ Hx
  icases Hx2 with ⟨Hd, Ht⟩
  ihave Ht2 := (show bigSep Finset.univ (fun b : Fin 8 => (XA.view.loc (c : Thread nD τ) ↦{shareTok (lent s) 8 b} V : sProp 𝕄))
      ⊢ iprop(bigSep Finset.univ (fun b : Fin 8 => (XA.view.loc (c : Thread nD τ) ↦[σ b]{shareTok (lent s) 8 b} V))
        ∗ bigSep Finset.univ (fun b : Fin 8 => (XA.view.loc (c : Thread nD τ) ↦[Finset.univ \ σ b]{shareTok (lent s) 8 b} V))) from
    BIBase.Entails.trans (bigSep_mono fun b _ => (pointsTo_split_subset (Finset.subset_univ (σ b))).1) (Entails.of_eq (both _ _))) $$ Ht
  icases Ht2 with ⟨Ha, Hb⟩
  isplitl [Hp Ha]
  · ihave Hpe := (show bigSep Finset.univ (fun b : Fin 8 => (XB.view.loc (c : Thread nD τ) ↦[part s b]{fullShare} f : sProp 𝕄))
      ⊢ bigSep Finset.univ (fun b : Fin 8 => iprop(∃ f, XB.view.loc (c : Thread nD τ) ↦[part s b]{fullShare} f)) from
      bigSep_mono fun b _ => (show (XB.view.loc (c : Thread nD τ) ↦[part s b]{fullShare} f : sProp 𝕄) ⊢ iprop(∃ f, XB.view.loc (c : Thread nD τ) ↦[part s b]{fullShare} f) from by
        iintro H; iexists f; iexact H)) $$ Hp
    unfold D
    iapply (Entails.of_eq (both _ _).symm)
    isplitl [Hpe] <;> iassumption
  · unfold Rest
    isplitl [Hd] <;> iassumption

theorem unlend (s : Fin 2) (σ : Fin 8 → Finset S16x4096x1024.Idx) :
    (iprop(bigSep Finset.univ (D c V s σ) ∗ Rest c V s σ) : sProp 𝕄)
      ⊢ iprop((∃ f, XB.view.loc (c : Thread nD τ) ↦[slot s]{fullShare} f) ∗ (XA.view.loc (c : Thread nD τ) ↦{lent s} V)) := by
  unfold Rest D
  iintro ⟨HD, Hd, Hb⟩
  ihave HD2 := (Entails.of_eq (both _ _)) $$ HD
  icases HD2 with ⟨Hp, Ha⟩
  isplitl [Hp]
  · iapply (Ring.pointsTo_sub_blocks_join_exists (part s) (fun b b' h => parts_disjoint s b (Finset.mem_univ _) b' (Finset.mem_univ _) h) (slot s) (slot_parts s) (fun _ => default)) $$ Hp
  · iapply (pointsTo_toks_join (lent s) 8)
    isplitl [Hd]; · iexact Hd
    ihave H2 := (Entails.of_eq (both _ _).symm) $$ [Ha Hb]
    · isplitl [Ha]; · iexact Ha
      iexact Hb
    iapply (show bigSep Finset.univ (fun b : Fin 8 => iprop((XA.view.loc (c : Thread nD τ) ↦[σ b]{shareTok (lent s) 8 b} V)
        ∗ (XA.view.loc (c : Thread nD τ) ↦[Finset.univ \ σ b]{shareTok (lent s) 8 b} V)))
      ⊢ (bigSep Finset.univ (fun b : Fin 8 => (XA.view.loc (c : Thread nD τ) ↦{shareTok (lent s) 8 b} V)) : sProp 𝕄) from
      bigSep_mono fun b _ => (pointsTo_split_subset (Finset.subset_univ (σ b))).2) $$ H2

/-- A free slot is one with none of its copies issued. -/
theorem start (s : Fin 2) (σ : Fin 8 → Finset S16x4096x1024.Idx) :
    Free c V s ⊢ |={Set.univ}=> iprop(Issuing c V s σ 0 ∗ Rest c V s σ) := by
  unfold Free Issuing
  iintro ⟨Hv, Hb, Hx⟩
  imod (batch_alloc' (n := 8) countersEmb (c : Thread nD τ) (sm := .dma (cell s)) () credit (D c V s σ) (E := Set.univ)) $$ Hv with HB
  imodintro
  ihave H := (lend c V s σ) $$ [Hb Hx]
  · isplitl [Hb] <;> iassumption
  icases H with ⟨HD, HR⟩
  isplitl [HB HD]
  · isplitl [HB]; · iexact HB
    rw [← bigSep_pending_zero]; iexact HD
  · iexact HR

theorem issued (s : Fin 2) (σ : Fin 8 → Finset S16x4096x1024.Idx) : iprop(Issuing c V s σ 8 ∗ Rest c V s σ) ⊢ Flying c V s := by
  unfold Flying Issuing
  iintro ⟨⟨HB, -⟩, HR⟩
  iexists σ
  isplitl [HB] <;> iassumption

theorem issue (s : Fin 2) (σ : Fin 8 → Finset S16x4096x1024.Idx) (j : ℕ) (hj : j < 8) {od : Fin 4 → Nat} {pd} {os : Fin 3 → Nat} {ps}
    {osm : Fin 1 → Nat} {psm : ∀ a, osm a + S1.size a ≤ S2.size a}
    (hd : od = ![s.val, 0, j, 0]) (hm : osm = ![s.val]) (hs : σ ⟨j, hj⟩ = (srcAt os ps).view.set)
    {h1 h2 h3} :
    Does c (Issuing c V s σ j)
      (Prog.lift (.enqueueDma (srcAt os ps) (.here (dstAt od pd)) (.dma ((cc0_scratch1.slice (Rect.unit (s := S2) osm S1.size psm)).squeeze S_ squeezes_S1_S_).sem) h1 h2 h3))
      (Issuing c V s σ (j + 1)) := by
  subst hm
  have hsub := dst_subset s ⟨j, hj⟩ od hd pd
  unfold Does Issuing
  rw [bigSep_pending_step _ j hj]
  iintro ⟨HB, HD, HP⟩
  unfold D
  icases HD with ⟨⟨%f, Hf⟩, Hx⟩
  rw [hs]
  iapply (wp_dmaBatch countersEmb Variants.none (c : Thread nD τ) none (src := srcAt os ps) (dst := dstAt od pd) (sm := .dma (cell s))
    (Sd := part s ⟨j, hj⟩) (fd := f) (q := shareTok (lent s) 8 ⟨j, hj⟩) (fs := V) (D := D c V s σ) (j := j) (u := 0) () credit rfl hsub hj (Nat.zero_le _) ?_) $$ [HB Hf Hx]
  rotate_left
  · isplitl [Hx]; · iexact Hx
    isplitl [Hf]; · iexact Hf
    iexact HB
  · iintro HB
    rw [wp_ret]
    imodintro
    isplitl [HB]; · iexact HB
    iexact HP
  · unfold D
    rw [hs]
    iintro ⟨Ha, Hb⟩
    isplitl [Ha]; · iexists _; iexact Ha
    iexact Hb

/-- The duties the core holds, whatever is recorded. -/
def Owes : sProp 𝕄 := iprop(∃ W, owes (c : Thread nD τ) 0 W)

theorem await (s : Fin 2) (σ : Fin 8 → Finset S16x4096x1024.Idx) (j : ℕ) (hj : j + 1 < 8) {od : Fin 4 → Nat} {pd} {os : Fin 3 → Nat} {ps}
    {osm : Fin 1 → Nat} {psm : ∀ a, osm a + S1.size a ≤ S2.size a} (hm : osm = ![s.val]) {h1 h2} :
    Does c iprop(Bat c V s σ 8 (j * credit) ∗ Owes c)
      (Prog.lift (.waitDma2 ((cc0_scratch1.slice (Rect.unit (s := S2) osm S1.size psm)).squeeze S_ squeezes_S1_S_).sem (srcAt os ps) (dstAt od pd) h1 h2))
      iprop(Bat c V s σ 8 ((j + 1) * credit) ∗ Owes c) := by
  subst hm
  unfold Does Owes
  iintro ⟨HB, %W, HW⟩
  iapply (wp_waitBatch countersEmb Variants.none (c : Thread nD τ) none (sem := cell s) (srcw := srcAt os ps) (dstw := dstAt od pd) (N := credit) (D := D c V s σ)
    (u := j * credit) (W := W) () rfl (by rw [← Nat.succ_mul, Nat.mul_comm credit]; exact Nat.mul_lt_mul_of_pos_right hj credit_pos)) $$ [HB HW]
  · isplitl [HB]; · iexact HB
    iexact HW
  · iintro ⟨HB, HW⟩
    rw [wp_ret]
    imodintro
    rw [Nat.succ_mul]
    isplitl [HB]; · iexact HB
    iexists _; iexact HW

theorem awaitLast (s : Fin 2) (σ : Fin 8 → Finset S16x4096x1024.Idx) {od : Fin 4 → Nat} {pd} {os : Fin 3 → Nat} {ps}
    {osm : Fin 1 → Nat} {psm : ∀ a, osm a + S1.size a ≤ S2.size a} (hm : osm = ![s.val]) {h1 h2} :
    Does c iprop((Bat c V s σ 8 (7 * credit) ∗ Owes c) ∗ Rest c V s σ)
      (Prog.lift (.waitDma2 ((cc0_scratch1.slice (Rect.unit (s := S2) osm S1.size psm)).squeeze S_ squeezes_S1_S_).sem (srcAt os ps) (dstAt od pd) h1 h2))
      iprop(Free c V s ∗ Owes c) := by
  subst hm
  unfold Does Owes Free
  iintro ⟨⟨HB, %W, HW⟩, HR⟩
  iapply (wp_waitBatchLast countersEmb Variants.none (c : Thread nD τ) none (sem := cell s) (srcw := srcAt os ps) (dstw := dstAt od pd) (N := credit) (D := D c V s σ)
    (u := 7 * credit) (W := W) () rfl credit_pos (by omega)) $$ [HB HW]
  · isplitl [HB]; · iexact HB
    iexact HW
  · iintro ⟨HD, Hv, HW⟩
    rw [wp_ret]
    imodintro
    isplitr [HW]
    · isplitl [Hv]; · iexact Hv
      iapply (unlend c V s σ)
      isplitl [HD] <;> iassumption
    · iexists _; iexact HW

end

end Cert.MixerIdeal.Body

end
-- ==== Proof.MixerIdeal.Offs.lean ====
module

public import proofs.«01_k».proof.Proof.MixerIdeal.Copies

@[expose] public section

set_option maxRecDepth 16384
set_option Elab.async false

/-! # Where the copies of a step lie -/

noncomputable section

namespace Cert.MixerIdeal.Body

open Cert.MixerIdeal Cert.MixerIdeal.Gen
open Idealize.ShloMosaic

theorem cond1 : ∀ t : Fin cfg0.N, k0_cond1 (grid0.coords t) = 1#1 ↔ t.val = 0 := by decide +kernel
theorem cond2 : ∀ t : Fin cfg0.N, k0_cond2 (grid0.coords t) = 1#1 ↔ t.val < 127 := by decide +kernel
theorem off1 : ∀ t : Fin cfg0.N, k0_off1 (grid0.coords t) = ![t.val % 2] := by decide +kernel
theorem off2 : ∀ t : Fin cfg0.N, k0_off2 (grid0.coords t) = ![t.val % 2, 0, 0, 0] := by decide +kernel
theorem off4 : ∀ t : Fin cfg0.N, k0_off4 (grid0.coords t) = ![t.val % 2, 0, 1, 0] := by decide +kernel
theorem off5 : ∀ t : Fin cfg0.N, k0_off5 (grid0.coords t) = ![t.val % 2, 0, 2, 0] := by decide +kernel
theorem off6 : ∀ t : Fin cfg0.N, k0_off6 (grid0.coords t) = ![t.val % 2, 0, 3, 0] := by decide +kernel
theorem off7 : ∀ t : Fin cfg0.N, k0_off7 (grid0.coords t) = ![t.val % 2, 0, 4, 0] := by decide +kernel
theorem off8 : ∀ t : Fin cfg0.N, k0_off8 (grid0.coords t) = ![t.val % 2, 0, 5, 0] := by decide +kernel
theorem off9 : ∀ t : Fin cfg0.N, k0_off9 (grid0.coords t) = ![t.val % 2, 0, 6, 0] := by decide +kernel
theorem off10 : ∀ t : Fin cfg0.N, k0_off10 (grid0.coords t) = ![t.val % 2, 0, 7, 0] := by decide +kernel
theorem off11 : ∀ t : Fin cfg0.N, k0_off11 (grid0.coords t) = ![(t.val + 1) % 2] := by decide +kernel
theorem off12 : ∀ t : Fin cfg0.N, k0_off12 (grid0.coords t) = ![(t.val + 1) % 2, 0, 0, 0] := by decide +kernel
theorem off14 : ∀ t : Fin cfg0.N, k0_off14 (grid0.coords t) = ![(t.val + 1) % 2, 0, 1, 0] := by decide +kernel
theorem off15 : ∀ t : Fin cfg0.N, k0_off15 (grid0.coords t) = ![(t.val + 1) % 2, 0, 2, 0] := by decide +kernel
theorem off16 : ∀ t : Fin cfg0.N, k0_off16 (grid0.coords t) = ![(t.val + 1) % 2, 0, 3, 0] := by decide +kernel
theorem off17 : ∀ t : Fin cfg0.N, k0_off17 (grid0.coords t) = ![(t.val + 1) % 2, 0, 4, 0] := by decide +kernel
theorem off18 : ∀ t : Fin cfg0.N, k0_off18 (grid0.coords t) = ![(t.val + 1) % 2, 0, 5, 0] := by decide +kernel
theorem off19 : ∀ t : Fin cfg0.N, k0_off19 (grid0.coords t) = ![(t.val + 1) % 2, 0, 6, 0] := by decide +kernel
theorem off20 : ∀ t : Fin cfg0.N, k0_off20 (grid0.coords t) = ![(t.val + 1) % 2, 0, 7, 0] := by decide +kernel
theorem off21 : ∀ t : Fin cfg0.N, k0_off21 (grid0.coords t) = ![t.val % 2] := by decide +kernel
theorem off31 : ∀ t : Fin cfg0.N, k0_off31 (grid0.coords t) = ![t.val % 2, 0, 0, 0] := by decide +kernel

end Cert.MixerIdeal.Body

end
-- ==== Proof.MixerIdeal.Parts.lean ====
module

public import proofs.«01_k».proof.Proof.MixerIdeal.Base

@[expose] public section

set_option maxRecDepth 16384
set_option Elab.async false

/-!
# The pieces of the mixer's body that load and store

Each of them leaves the memory held as it found it held.
-/

noncomputable section

namespace Cert.MixerIdeal.Body

open Cert.MixerIdeal Cert.MixerIdeal.Gen
open Idealize.ShloMosaic
open Idealize.ShloMosaic.TcCoe
open Idealize.SL Idealize.SL.RA Idealize.SL.BI

variable {F : FTy → Type} [FloatOps F]

variable (i : grid0.Coords)
variable (arg2 : Memref sig .tc .hbm S16x4096x1024 .f32)
variable (harg2 : arg2.IsWhole)
variable (arg3 : Memref sig .tc .vmem S1x1024 .f32)
variable (harg3 : arg3.IsWhole)
variable (arg4 : Memref sig .tc .vmem S1024x2560 .bf16)
variable (harg4 : arg4.IsWhole)
variable (arg5 : Memref sig .tc .vmem S2x256x256 .bf16)
variable (harg5 : arg5.IsWhole)
variable (arg6 : Memref sig .tc .vmem S1x512 .f32)
variable (harg6 : arg6.IsWhole)
variable (arg7 : Memref sig .tc .vmem S4x1024 .f32)
variable (harg7 : arg7.IsWhole)
variable (arg8 : Memref sig .tc .vmem S1x1024 .f32)
variable (harg8 : arg8.IsWhole)
variable (arg9 : Memref sig .tc .vmem S4x256x256 .bf16)
variable (harg9 : arg9.IsWhole)
variable (arg10 : Memref sig .tc .vmem S4x256x256 .bf16)
variable (harg10 : arg10.IsWhole)
variable (arg11 : Memref sig .tc .vmem S1x1024 .f32)
variable (harg11 : arg11.IsWhole)
variable (arg12 : Memref sig .tc .vmem S1x1024 .f32)
variable (harg12 : arg12.IsWhole)
variable (arg13 : Memref sig .tc .vmem S1x1024 .f32)
variable (harg13 : arg13.IsWhole)
variable (arg14 : Memref sig .tc .vmem S512x1024 .bf16)
variable (harg14 : arg14.IsWhole)
variable (arg15 : Memref sig .tc .vmem S1024x1024 .bf16)
variable (harg15 : arg15.IsWhole)
variable (arg16 : Memref sig .tc .vmem S1024x1024 .bf16)
variable (harg16 : arg16.IsWhole)
variable (arg17 : Memref sig .tc .vmem S1x1024 .f32)
variable (harg17 : arg17.IsWhole)
variable (arg18 : Memref sig .tc .vmem S32x1024 .bf16)
variable (harg18 : arg18.IsWhole)
variable (arg19 : Memref sig .tc .vmem S32x512 .f32)
variable (harg19 : arg19.IsWhole)
variable (arg20 : Memref sig .tc .vmem S8x1024x256 .bf16)
variable (harg20 : arg20.IsWhole)
variable (arg21 : Memref sig .tc .vmem S512x1024 .f32)
variable (harg21 : arg21.IsWhole)
variable (arg22 : Memref sig .tc .vmem S512x1152 .f32)
variable (harg22 : arg22.IsWhole)
variable (arg23 : Memref sig .tc .vmem S32x512 .f32)
variable (harg23 : arg23.IsWhole)
variable (arg24 : Memref sig .tc .vmem S8x512 .f32)
variable (harg24 : arg24.IsWhole)
variable (arg25 : Memref sig .tc .vmem S2x64x8x1024 .f32)
variable (harg25 : arg25.IsWhole)
variable (arg26 : DmaSems sig S2)
variable (arg27 : Memref sig .tc .vmem S640x512 .f32)
variable (harg27 : arg27.IsWhole)
variable (arg28 : Memref sig .tc .vmem S536x1024 .f32)
variable (harg28 : arg28.IsWhole)
variable (arg29 : Memref sig .tc .vmem S512x1024 .f32)
variable (harg29 : arg29.IsWhole)
variable (arg30 : Memref sig .tc .vmem S512x1024 .f32)
variable (harg30 : arg30.IsWhole)
variable (arg31 : Memref sig .tc .vmem S512x1024 .f32)
variable (harg31 : arg31.IsWhole)
variable (arg32 : Memref sig .tc .vmem S512x1024 .bf16)
variable (harg32 : arg32.IsWhole)
variable (arg33 : Memref sig .tc .vmem S8x512x256 .f32)
variable (harg33 : arg33.IsWhole)
variable (arg34 : Memref sig .tc .vmem S8x1024 .f32)
variable (harg34 : arg34.IsWhole)
variable (arg35 : Memref sig .tc .vmem S32x512 .f32)
variable (harg35 : arg35.IsWhole)
variable {c : Dev nD} {R : sProp (MT nD τ sig Unit (Elt F) ℕ (Pipeline.UD sig nD τ) ℕ)}
variable [Reads c R arg3] [Reads c R arg4] [Reads c R arg5] [Reads c R arg6] [Reads c R arg7] [Reads c R arg8] [Reads c R arg9] [Reads c R arg10] [Reads c R arg11] [Reads c R arg12] [Reads c R arg13] [Reads c R arg14] [Reads c R arg15] [Reads c R arg16] [Reads c R arg17] [Reads c R arg18] [Reads c R arg19] [Reads c R arg20]
variable [Writes c R arg21] [Writes c R arg22] [Writes c R arg23] [Writes c R arg24] [Writes c R arg27] [Writes c R arg28] [Writes c R arg29] [Writes c R arg30] [Writes c R arg31] [Writes c R arg32] [Writes c R arg33] [Writes c R arg34] [Writes c R arg35]

set_option maxHeartbeats 4000000 in
theorem part9 (arg1 : BitVec 32) (v125 : Vec F S640x512 .f32) (v130 : IVec S512x128 32) (c8_i32_77 : BitVec 32) : Does c R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 arg1 v125 v130 c8_i32_77) R := by
  rw [k0_part9_eq_skeleton]; unfold k0_part9_skel
  with_reducible exact Does.pure _

set_option maxHeartbeats 4000000 in
theorem part10 (v125 : Vec F S640x512 .f32) (v159 : FVec F S512x128 .f32) (v169 : FVec F S512x128 .f32) (v171 : FVec F S512x128 .f32) (v178 : FVec F S512x128 .f32) (v180 : FVec F S512x128 .f32) : Does c R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v125 v159 v169 v171 v178 v180) R := by
  rw [k0_part10_eq_skeleton]; unfold k0_part10_skel
  with_reducible refine Does.bind Does.load (fun _ => ?_)
  with_reducible refine Does.bind Does.load (fun _ => ?_)
  with_reducible exact Does.pure _

set_option maxHeartbeats 4000000 in
theorem part11 (v115 : FVec F S512x1024 .bf16) (v228 : FVec F S512x512 .f32) : Does c R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v115 v228) R := by
  rw [k0_part11_eq_skeleton]; unfold k0_part11_skel
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible exact Does.pure _

set_option maxHeartbeats 4000000 in
theorem part12 (v263 : FVec F S512x1024 .f32) : Does c R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v263) R := by
  rw [k0_part12_eq_skeleton]; unfold k0_part12_skel
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible exact Does.pure _

set_option maxHeartbeats 4000000 in
theorem part13 (v286 : FVec F S512x1024 .bf16) (v290 : FVec F S512x256 .f32) (v294 : FVec F S512x256 .f32) (v295 : FVec F S512x256 .bf16) (v297 : FVec F S256x256 .bf16) : Does c R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v286 v290 v294 v295 v297) R := by
  rw [k0_part13_eq_skeleton]; unfold k0_part13_skel
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible exact Does.pure _

set_option maxHeartbeats 4000000 in
theorem part14 (v281 : FVec F S512x1024 .f32) (v308 : FVec F S512x1024 .f32) (v330 : FVec F S512x1024 .f32) (v331 : FVec F S512x1024 .f32) : Does c R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v281 v308 v330 v331) R := by
  rw [k0_part14_eq_skeleton]; unfold k0_part14_skel
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.store (fun _ => ?_)
  with_reducible exact Does.pure _

set_option maxHeartbeats 4000000 in
theorem part15  : Does c R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35) R := by
  rw [k0_part15_eq_skeleton]; unfold k0_part15_skel
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible exact Does.pure _

set_option maxHeartbeats 4000000 in
theorem part16 (v400 : FVec F S8x1024 .f32) : Does c R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v400) R := by
  rw [k0_part16_eq_skeleton]; unfold k0_part16_skel
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible exact Does.pure _

set_option maxHeartbeats 4000000 in
theorem part17 (v428 : FVec F S8x1024 .f32) : Does c R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v428) R := by
  rw [k0_part17_eq_skeleton]; unfold k0_part17_skel
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible exact Does.pure _

set_option maxHeartbeats 4000000 in
theorem part18 (v456 : FVec F S8x1024 .f32) (v460 : Vec F S8x1024 .f32) : Does c R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v456 v460) R := by
  rw [k0_part18_eq_skeleton]; unfold k0_part18_skel
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible exact Does.pure _

set_option maxHeartbeats 4000000 in
theorem part19 (v488 : Vec F S8x1024 .f32) (v490 : FVec F S8x1024 .f32) : Does c R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v488 v490) R := by
  rw [k0_part19_eq_skeleton]; unfold k0_part19_skel
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible exact Does.pure _

set_option maxHeartbeats 4000000 in
theorem part20 (v519 : FVec F S8x1024 .f32) : Does c R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v519) R := by
  rw [k0_part20_eq_skeleton]; unfold k0_part20_skel
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible exact Does.pure _

set_option maxHeartbeats 4000000 in
theorem part21 (v547 : FVec F S8x1024 .f32) : Does c R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v547) R := by
  rw [k0_part21_eq_skeleton]; unfold k0_part21_skel
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible exact Does.pure _

set_option maxHeartbeats 4000000 in
theorem part22 (v575 : FVec F S8x1024 .f32) (v578 : FVec F S8x1024 .f32) : Does c R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v575 v578) R := by
  rw [k0_part22_eq_skeleton]; unfold k0_part22_skel
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible exact Does.pure _

set_option maxHeartbeats 4000000 in
theorem part23 (v603 : FVec F S8x1024 .f32) (v607 : Vec F S8x1024 .f32) : Does c R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v603 v607) R := by
  rw [k0_part23_eq_skeleton]; unfold k0_part23_skel
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible exact Does.pure _

set_option maxHeartbeats 4000000 in
theorem part24 (v624 : FVec F S8x1024 .f32) (v635 : Vec F S8x1024 .f32) : Does c R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v624 v635) R := by
  rw [k0_part24_eq_skeleton]; unfold k0_part24_skel
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible exact Does.pure _

set_option maxHeartbeats 4000000 in
theorem part25 (v666 : FVec F S8x1024 .f32) : Does c R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v666) R := by
  rw [k0_part25_eq_skeleton]; unfold k0_part25_skel
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible exact Does.pure _

set_option maxHeartbeats 4000000 in
theorem part26 (v687 : FVec F S8x1024 .f32) (v694 : FVec F S512x256 .f32) : Does c R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v687 v694) R := by
  rw [k0_part26_eq_skeleton]; unfold k0_part26_skel
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible exact Does.pure _

set_option maxHeartbeats 4000000 in
theorem part27 (v722 : FVec F S8x1024 .f32) (v725 : FVec F S8x1024 .f32) : Does c R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v722 v725) R := by
  rw [k0_part27_eq_skeleton]; unfold k0_part27_skel
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible exact Does.pure _

set_option maxHeartbeats 4000000 in
theorem part28 (v750 : FVec F S8x1024 .f32) (v754 : Vec F S512x1024 .bf16) : Does c R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v750 v754) R := by
  rw [k0_part28_eq_skeleton]; unfold k0_part28_skel
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible exact Does.pure _

set_option maxHeartbeats 4000000 in
theorem part29 (v778 : FVec F S8x1024 .f32) (v782 : Vec F S8x1024 .f32) : Does c R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v778 v782) R := by
  rw [k0_part29_eq_skeleton]; unfold k0_part29_skel
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible exact Does.pure _

set_option maxHeartbeats 4000000 in
theorem part30 (v813 : FVec F S8x1024 .f32) : Does c R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v813) R := by
  rw [k0_part30_eq_skeleton]; unfold k0_part30_skel
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible exact Does.pure _

set_option maxHeartbeats 4000000 in
theorem part31 (v841 : FVec F S8x1024 .f32) : Does c R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v841) R := by
  rw [k0_part31_eq_skeleton]; unfold k0_part31_skel
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible exact Does.pure _

set_option maxHeartbeats 4000000 in
theorem part32 (v869 : FVec F S8x1024 .f32) (v872 : FVec F S8x1024 .f32) : Does c R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v869 v872) R := by
  rw [k0_part32_eq_skeleton]; unfold k0_part32_skel
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible refine Does.bind Does.store (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible exact Does.pure _

set_option maxHeartbeats 4000000 in
theorem part33 (v100 : FVec F S512x1024 .f32) (v892 : FVec F S512x1024 .f32) (v894 : FVec F S512x256 .f32) (v896 : FVec F S512x256 .f32) (v898 : FVec F S512x256 .f32) : Does c R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v100 v892 v894 v896 v898) R := by
  rw [k0_part33_eq_skeleton]; unfold k0_part33_skel
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.load (fun _ => ?_)
  with_reducible refine Does.bind Does.store (fun _ => ?_)
  with_reducible refine Does.bind Does.load (fun _ => ?_)
  with_reducible exact Does.pure _

set_option maxHeartbeats 4000000 in
theorem part34 (v930 : FVec F S512x1024 .f32) (v933 : FVec F S1x1024 .f32) (v934 : FVec F S512x1024 .f32) : Does c R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v930 v933 v934) R := by
  rw [k0_part34_eq_skeleton]; unfold k0_part34_skel
  with_reducible refine Does.bind Does.load (fun _ => ?_)
  with_reducible refine Does.bind Does.store (fun _ => ?_)
  with_reducible refine Does.bind Does.load (fun _ => ?_)
  with_reducible refine Does.bind Does.load (fun _ => ?_)
  with_reducible exact Does.pure _

set_option maxHeartbeats 4000000 in
theorem part35 (v953 : FVec F S32x512 .f32) (v955 : FVec F S4x512 .f32) (v964 : FVec F S1x512 .f32) (v971 : FVec F S1x512 .f32) (v978 : FVec F S4x512 .f32) : Does c R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v953 v955 v964 v971 v978) R := by
  rw [k0_part35_eq_skeleton]; unfold k0_part35_skel
  with_reducible exact Does.pure _

set_option maxHeartbeats 4000000 in
theorem part36 (v883 : Vec F S32x512 .f32) (v1023 : FVec F S1x512 .f32) (v1024 : FVec F S1x512 .f32) (v1026 : FVec F S1x512 .f32) : Does c R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 harg27 arg28 harg28 arg29 harg29 arg30 harg30 arg31 harg31 arg32 harg32 arg33 harg33 arg34 harg34 arg35 harg35 v883 v1023 v1024 v1026) R := by
  rw [k0_part36_eq_skeleton]; unfold k0_part36_skel
  with_reducible exact Does.pure _

end Cert.MixerIdeal.Body

end
-- ==== Proof.MixerIdeal.Moves.lean ====
module

public import proofs.«01_k».proof.Proof.MixerIdeal.Offs
public import proofs.«01_k».proof.Proof.MixerIdeal.Parts

@[expose] public section

set_option maxRecDepth 16384
set_option Elab.async false

/-!
# The pieces of the mixer's body that copy
-/

noncomputable section

namespace Cert.MixerIdeal.Body

open Cert.MixerIdeal Cert.MixerIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The slot a step reads. -/
def sl (t : Fin cfg0.N) : Fin 2 := ⟨t.val % 2, Nat.mod_lt _ (by decide)⟩
/-- The slot a step fills. -/
def ot (t : Fin cfg0.N) : Fin 2 := ⟨(t.val + 1) % 2, Nat.mod_lt _ (by decide)⟩

/-- What the first step's copies read. -/
def σ1 (i : grid0.Coords) (h : k0_cond1 i = 1#1) (b : Fin 8) : Finset S16x4096x1024.Idx :=
  (srcAt (k0_off3 i (BitVec.ofNat 32 b.val)) (k0_off3_inb i h b)).view.set
/-- What a step's copies for the next read. -/
def σ2 (i : grid0.Coords) (h : k0_cond2 i = 1#1) (b : Fin 8) : Finset S16x4096x1024.Idx :=
  (srcAt (k0_off13 i (BitVec.ofNat 32 b.val)) (k0_off13_inb i h b)).view.set

section
variable {c : Dev nD} {P P' Q R : sProp (MT nD τ sig Unit (Elt F) ℕ (Pipeline.UD sig nD τ) ℕ)} {α : Type}

theorem Does.left {p : Prog (TpuEff nD τ sig (Elt F) Λ₀ .tc) α} (h : Does c P p Q) : Does c iprop(R ∗ P) p iprop(R ∗ Q) :=
  Does.conseq (Does.frame (R := R) h) sep_comm.1 sep_comm.1

theorem Does.after {p : Prog (TpuEff nD τ sig (Elt F) Λ₀ .tc) α} (h : P ⊢ |={Set.univ}=> P') (h' : Does c P' p Q) : Does c P p Q := by
  unfold Does at h' ⊢
  iintro H
  imod h $$ H with H
  iapply h' $$ H

end

variable (c : Dev nD) (V : Buf (Elt F) ((XA.view.loc (c : Thread nD τ)) : Loc nD τ sig)) (t : Fin cfg0.N)

variable (harg2 : XA.IsWhole)
variable (arg3 : Memref sig .tc .vmem S1x1024 .f32)
variable (harg3 : arg3.IsWhole)
variable (arg4 : Memref sig .tc .vmem S1024x2560 .bf16)
variable (harg4 : arg4.IsWhole)
variable (arg5 : Memref sig .tc .vmem S2x256x256 .bf16)
variable (harg5 : arg5.IsWhole)
variable (arg6 : Memref sig .tc .vmem S1x512 .f32)
variable (harg6 : arg6.IsWhole)
variable (arg7 : Memref sig .tc .vmem S4x1024 .f32)
variable (harg7 : arg7.IsWhole)
variable (arg8 : Memref sig .tc .vmem S1x1024 .f32)
variable (harg8 : arg8.IsWhole)
variable (arg9 : Memref sig .tc .vmem S4x256x256 .bf16)
variable (harg9 : arg9.IsWhole)
variable (arg10 : Memref sig .tc .vmem S4x256x256 .bf16)
variable (harg10 : arg10.IsWhole)
variable (arg11 : Memref sig .tc .vmem S1x1024 .f32)
variable (harg11 : arg11.IsWhole)
variable (arg12 : Memref sig .tc .vmem S1x1024 .f32)
variable (harg12 : arg12.IsWhole)
variable (arg13 : Memref sig .tc .vmem S1x1024 .f32)
variable (harg13 : arg13.IsWhole)
variable (arg14 : Memref sig .tc .vmem S512x1024 .bf16)
variable (harg14 : arg14.IsWhole)
variable (arg15 : Memref sig .tc .vmem S1024x1024 .bf16)
variable (harg15 : arg15.IsWhole)
variable (arg16 : Memref sig .tc .vmem S1024x1024 .bf16)
variable (harg16 : arg16.IsWhole)
variable (arg17 : Memref sig .tc .vmem S1x1024 .f32)
variable (harg17 : arg17.IsWhole)
variable (arg18 : Memref sig .tc .vmem S32x1024 .bf16)
variable (harg18 : arg18.IsWhole)
variable (arg19 : Memref sig .tc .vmem S32x512 .f32)
variable (harg19 : arg19.IsWhole)
variable (arg20 : Memref sig .tc .vmem S8x1024x256 .bf16)
variable (harg20 : arg20.IsWhole)
variable (arg21 : Memref sig .tc .vmem S512x1024 .f32)
variable (harg21 : arg21.IsWhole)
variable (arg22 : Memref sig .tc .vmem S512x1152 .f32)
variable (harg22 : arg22.IsWhole)
variable (arg23 : Memref sig .tc .vmem S32x512 .f32)
variable (harg23 : arg23.IsWhole)
variable (arg24 : Memref sig .tc .vmem S8x512 .f32)
variable (harg24 : arg24.IsWhole)
variable (harg25 : XB.IsWhole)
variable (arg27 : Memref sig .tc .vmem S640x512 .f32)
variable (harg27 : arg27.IsWhole)
variable (arg28 : Memref sig .tc .vmem S536x1024 .f32)
variable (harg28 : arg28.IsWhole)
variable (arg29 : Memref sig .tc .vmem S512x1024 .f32)
variable (harg29 : arg29.IsWhole)
variable (arg30 : Memref sig .tc .vmem S512x1024 .f32)
variable (harg30 : arg30.IsWhole)
variable (arg31 : Memref sig .tc .vmem S512x1024 .f32)
variable (harg31 : arg31.IsWhole)
variable (arg32 : Memref sig .tc .vmem S512x1024 .bf16)
variable (harg32 : arg32.IsWhole)
variable (arg33 : Memref sig .tc .vmem S8x512x256 .f32)
variable (harg33 : arg33.IsWhole)
variable (arg34 : Memref sig .tc .vmem S8x1024 .f32)
variable (harg34 : arg34.IsWhole)
variable (arg35 : Memref sig .tc .vmem S32x512 .f32)
variable (harg35 : arg35.IsWhole)
variable {R : sProp (MT nD τ sig Unit (Elt F) ℕ (Pipeline.UD sig nD τ) ℕ)}
variable [Reads c R arg3] [Reads c R arg4] [Reads c R arg5] [Reads c R arg6] [Reads c R arg7] [Reads c R arg8] [Reads c R arg9] [Reads c R arg10] [Reads c R arg11] [Reads c R arg12] [Reads c R arg13] [Reads c R arg14] [Reads c R arg15] [Reads c R arg16] [Reads c R arg17] [Reads c R arg18] [Reads c R arg19] [Reads c R arg20]
variable [Writes c R arg21] [Writes c R arg22] [Writes c R arg23] [Writes c R arg24] [Writes c R arg27] [Writes c R arg28] [Writes c R arg29] [Writes c R arg30] [Writes c R arg31] [Writes c R arg32] [Writes c R arg33] [Writes c R arg34] [Writes c R arg35]

set_option maxHeartbeats 4000000 in
theorem part1 (arg0 : BitVec 32) (arg1 : BitVec 32) (k0_h1 : k0_cond1 (grid0.coords t) = 1#1) : Does c (Issuing c V (sl t) (σ1 (grid0.coords t) k0_h1) 0) (k0_part1 (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35 arg0 arg1 k0_h1) (Issuing c V (sl t) (σ1 (grid0.coords t) k0_h1) 1) := by
  rw [k0_part1_eq_skeleton]; unfold k0_part1_skel
  with_reducible refine Does.bind (issue c V (sl t) (σ1 (grid0.coords t) k0_h1) 0 (by decide) (off2 t) (off1 t) rfl) (fun _ => ?_)
  with_reducible exact Does.pure _

set_option maxHeartbeats 4000000 in
theorem part2 (k0_h1 : k0_cond1 (grid0.coords t) = 1#1) : Does c (Issuing c V (sl t) (σ1 (grid0.coords t) k0_h1) 1) (k0_part2 (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35 k0_h1) (Issuing c V (sl t) (σ1 (grid0.coords t) k0_h1) 6) := by
  rw [k0_part2_eq_skeleton]; unfold k0_part2_skel
  with_reducible refine Does.bind (issue c V (sl t) (σ1 (grid0.coords t) k0_h1) 1 (by decide) (off4 t) (off1 t) rfl) (fun _ => ?_)
  with_reducible refine Does.bind (issue c V (sl t) (σ1 (grid0.coords t) k0_h1) 2 (by decide) (off5 t) (off1 t) rfl) (fun _ => ?_)
  with_reducible refine Does.bind (issue c V (sl t) (σ1 (grid0.coords t) k0_h1) 3 (by decide) (off6 t) (off1 t) rfl) (fun _ => ?_)
  with_reducible refine Does.bind (issue c V (sl t) (σ1 (grid0.coords t) k0_h1) 4 (by decide) (off7 t) (off1 t) rfl) (fun _ => ?_)
  with_reducible refine Does.bind (issue c V (sl t) (σ1 (grid0.coords t) k0_h1) 5 (by decide) (off8 t) (off1 t) rfl) (fun _ => ?_)
  with_reducible exact Does.pure _

set_option maxHeartbeats 4000000 in
theorem part3 (X : sProp (MT nD τ sig Unit (Elt F) ℕ (Pipeline.UD sig nD τ) ℕ)) (arg0 : BitVec 32) (arg1 : BitVec 32) (v11 : BitVec 32) : Does c X (k0_part3 (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35 arg0 arg1 v11) X := by
  rw [k0_part3_eq_skeleton]; unfold k0_part3_skel
  with_reducible exact Does.pure _

set_option maxHeartbeats 4000000 in
theorem part4 (k0_h2 : k0_cond2 (grid0.coords t) = 1#1) (v1101 : BitVec 32) (c64_i32_706 : BitVec 32) : Does c (Issuing c V (ot t) (σ2 (grid0.coords t) k0_h2) 0) (k0_part4 (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35 k0_h2 v1101 c64_i32_706) (Issuing c V (ot t) (σ2 (grid0.coords t) k0_h2) 5) := by
  rw [k0_part4_eq_skeleton]; unfold k0_part4_skel
  with_reducible refine Does.bind (issue c V (ot t) (σ2 (grid0.coords t) k0_h2) 0 (by decide) (off12 t) (off11 t) rfl) (fun _ => ?_)
  with_reducible refine Does.bind (issue c V (ot t) (σ2 (grid0.coords t) k0_h2) 1 (by decide) (off14 t) (off11 t) rfl) (fun _ => ?_)
  with_reducible refine Does.bind (issue c V (ot t) (σ2 (grid0.coords t) k0_h2) 2 (by decide) (off15 t) (off11 t) rfl) (fun _ => ?_)
  with_reducible refine Does.bind (issue c V (ot t) (σ2 (grid0.coords t) k0_h2) 3 (by decide) (off16 t) (off11 t) rfl) (fun _ => ?_)
  with_reducible refine Does.bind (issue c V (ot t) (σ2 (grid0.coords t) k0_h2) 4 (by decide) (off17 t) (off11 t) rfl) (fun _ => ?_)
  with_reducible exact Does.pure _

set_option maxHeartbeats 4000000 in
theorem part6 (σ : Fin 8 → Finset S16x4096x1024.Idx) (arg0 : BitVec 32) (arg1 : BitVec 32) (c8_i32_16 : BitVec 32) : Does c iprop(Bat c V (sl t) σ 8 (0 * credit) ∗ Owes c) (k0_part6 (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35 arg0 arg1 c8_i32_16) iprop(Bat c V (sl t) σ 8 (2 * credit) ∗ Owes c) := by
  rw [k0_part6_eq_skeleton]; unfold k0_part6_skel
  with_reducible refine Does.bind (await c V (sl t) σ 0 (by decide) (off21 t)) (fun _ => ?_)
  with_reducible refine Does.bind (await c V (sl t) σ 1 (by decide) (off21 t)) (fun _ => ?_)
  with_reducible exact Does.pure _

set_option maxHeartbeats 4000000 in
theorem part7 (σ : Fin 8 → Finset S16x4096x1024.Idx)  : Does c iprop(Bat c V (sl t) σ 8 (2 * credit) ∗ Owes c) (k0_part7 (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35) iprop(Bat c V (sl t) σ 8 (7 * credit) ∗ Owes c) := by
  rw [k0_part7_eq_skeleton]; unfold k0_part7_skel
  with_reducible refine Does.bind (await c V (sl t) σ 2 (by decide) (off21 t)) (fun _ => ?_)
  with_reducible refine Does.bind (await c V (sl t) σ 3 (by decide) (off21 t)) (fun _ => ?_)
  with_reducible refine Does.bind (await c V (sl t) σ 4 (by decide) (off21 t)) (fun _ => ?_)
  with_reducible refine Does.bind (await c V (sl t) σ 5 (by decide) (off21 t)) (fun _ => ?_)
  with_reducible refine Does.bind (await c V (sl t) σ 6 (by decide) (off21 t)) (fun _ => ?_)
  with_reducible exact Does.pure _

theorem slotLoad (s : Fin 2) {o : Fin 4 → Nat} (h : o = ![s.val, 0, 0, 0]) {p : ∀ a, o a + S1x64x8x1024.size a ≤ S2x64x8x1024.size a} {hl} :
    Does c (Free c V s) (Prog.lift (.load XB (Rect.unit (s := S2x64x8x1024) o S1x64x8x1024.size p).toLoadRect hl)) (Free c V s) := by
  subst h
  have hs : (XB.view.setOn (Rect.unit (s := S2x64x8x1024) ![s.val, 0, 0, 0] S1x64x8x1024.size p).toLoadRect.set) ⊆ slot s := by
    intro i hi
    have hi' : i ∈ (Rect.unit (s := S2x64x8x1024) ![s.val, 0, 0, 0] S1x64x8x1024.size p).set := by
      obtain ⟨j, hj, rfl⟩ := Finset.mem_map.mp hi
      have hj' : j ∈ (Rect.unit (s := S2x64x8x1024) ![s.val, 0, 0, 0] S1x64x8x1024.size p).set := by simpa using hj
      exact hj'
    rw [Rect.mem_set_unit] at hi'
    have h0 := hi' 0
    change s.val ≤ (i 0).val ∧ (i 0).val < s.val + 1 at h0
    have h1 : (i 0).val = s.val := by omega
    exact Finset.mem_filter.mpr ⟨Finset.mem_univ _, h1⟩
  unfold Does Free
  iintro ⟨Hv, ⟨%f, Hf⟩, Hx⟩
  iapply (wp_load Variants.none (c : Thread nD τ) none Set.univ (m := XB) (S := slot s) (q := fullShare) (f := f) hs) $$ Hf
  iintro Hf
  rw [wp_ret]
  imodintro
  isplitl [Hv]; · iexact Hv
  isplitl [Hf]; · iexists f; iexact Hf
  iexact Hx

set_option maxHeartbeats 4000000 in
theorem part8 (σ : Fin 8 → Finset S16x4096x1024.Idx) (v11 : BitVec 32) : Does c iprop(R ∗ (Bat c V (sl t) σ 8 (7 * credit) ∗ Owes c) ∗ Rest c V (sl t) σ) (k0_part8 (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35 v11) iprop(R ∗ Free c V (sl t) ∗ Owes c) := by
  rw [k0_part8_eq_skeleton]; unfold k0_part8_skel
  with_reducible refine Does.bind (Does.left (awaitLast c V (sl t) σ (off21 t))) (fun _ => ?_)
  with_reducible refine Does.bind (Does.left (Does.frame (slotLoad c V (sl t) (off31 t)))) (fun _ => ?_)
  with_reducible refine Does.bind (Does.frame Does.load) (fun _ => ?_)
  with_reducible refine Does.bind (Does.frame Does.load) (fun _ => ?_)
  with_reducible refine Does.bind (Does.frame Does.store) (fun _ => ?_)
  with_reducible refine Does.bind (Does.frame Does.load) (fun _ => ?_)
  with_reducible refine Does.bind (Does.frame Does.load) (fun _ => ?_)
  with_reducible refine Does.bind (Does.frame Does.store) (fun _ => ?_)
  with_reducible refine Does.bind (Does.frame Does.load) (fun _ => ?_)
  with_reducible refine Does.bind (Does.frame Does.load) (fun _ => ?_)
  with_reducible refine Does.bind (Does.frame Does.store) (fun _ => ?_)
  with_reducible exact Does.pure _

end Cert.MixerIdeal.Body

end
-- ==== Proof.MixerIdeal.P5.lean ====
module

public import proofs.«01_k».proof.Proof.MixerIdeal.Moves
public import proofs.«01_k».proof.Proof.MixerIdeal.Parts

@[expose] public section

set_option maxRecDepth 16384
set_option Elab.async false

/-!
# The pieces of the mixer's body that copy
-/

noncomputable section

namespace Cert.MixerIdeal.Body

open Cert.MixerIdeal Cert.MixerIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (V : Buf (Elt F) ((XA.view.loc (c : Thread nD τ)) : Loc nD τ sig)) (t : Fin cfg0.N)

variable (harg2 : XA.IsWhole)
variable (arg3 : Memref sig .tc .vmem S1x1024 .f32)
variable (harg3 : arg3.IsWhole)
variable (arg4 : Memref sig .tc .vmem S1024x2560 .bf16)
variable (harg4 : arg4.IsWhole)
variable (arg5 : Memref sig .tc .vmem S2x256x256 .bf16)
variable (harg5 : arg5.IsWhole)
variable (arg6 : Memref sig .tc .vmem S1x512 .f32)
variable (harg6 : arg6.IsWhole)
variable (arg7 : Memref sig .tc .vmem S4x1024 .f32)
variable (harg7 : arg7.IsWhole)
variable (arg8 : Memref sig .tc .vmem S1x1024 .f32)
variable (harg8 : arg8.IsWhole)
variable (arg9 : Memref sig .tc .vmem S4x256x256 .bf16)
variable (harg9 : arg9.IsWhole)
variable (arg10 : Memref sig .tc .vmem S4x256x256 .bf16)
variable (harg10 : arg10.IsWhole)
variable (arg11 : Memref sig .tc .vmem S1x1024 .f32)
variable (harg11 : arg11.IsWhole)
variable (arg12 : Memref sig .tc .vmem S1x1024 .f32)
variable (harg12 : arg12.IsWhole)
variable (arg13 : Memref sig .tc .vmem S1x1024 .f32)
variable (harg13 : arg13.IsWhole)
variable (arg14 : Memref sig .tc .vmem S512x1024 .bf16)
variable (harg14 : arg14.IsWhole)
variable (arg15 : Memref sig .tc .vmem S1024x1024 .bf16)
variable (harg15 : arg15.IsWhole)
variable (arg16 : Memref sig .tc .vmem S1024x1024 .bf16)
variable (harg16 : arg16.IsWhole)
variable (arg17 : Memref sig .tc .vmem S1x1024 .f32)
variable (harg17 : arg17.IsWhole)
variable (arg18 : Memref sig .tc .vmem S32x1024 .bf16)
variable (harg18 : arg18.IsWhole)
variable (arg19 : Memref sig .tc .vmem S32x512 .f32)
variable (harg19 : arg19.IsWhole)
variable (arg20 : Memref sig .tc .vmem S8x1024x256 .bf16)
variable (harg20 : arg20.IsWhole)
variable (arg21 : Memref sig .tc .vmem S512x1024 .f32)
variable (harg21 : arg21.IsWhole)
variable (arg22 : Memref sig .tc .vmem S512x1152 .f32)
variable (harg22 : arg22.IsWhole)
variable (arg23 : Memref sig .tc .vmem S32x512 .f32)
variable (harg23 : arg23.IsWhole)
variable (arg24 : Memref sig .tc .vmem S8x512 .f32)
variable (harg24 : arg24.IsWhole)
variable (harg25 : XB.IsWhole)
variable (arg27 : Memref sig .tc .vmem S640x512 .f32)
variable (harg27 : arg27.IsWhole)
variable (arg28 : Memref sig .tc .vmem S536x1024 .f32)
variable (harg28 : arg28.IsWhole)
variable (arg29 : Memref sig .tc .vmem S512x1024 .f32)
variable (harg29 : arg29.IsWhole)
variable (arg30 : Memref sig .tc .vmem S512x1024 .f32)
variable (harg30 : arg30.IsWhole)
variable (arg31 : Memref sig .tc .vmem S512x1024 .f32)
variable (harg31 : arg31.IsWhole)
variable (arg32 : Memref sig .tc .vmem S512x1024 .bf16)
variable (harg32 : arg32.IsWhole)
variable (arg33 : Memref sig .tc .vmem S8x512x256 .f32)
variable (harg33 : arg33.IsWhole)
variable (arg34 : Memref sig .tc .vmem S8x1024 .f32)
variable (harg34 : arg34.IsWhole)
variable (arg35 : Memref sig .tc .vmem S32x512 .f32)
variable (harg35 : arg35.IsWhole)
variable {R : sProp (MT nD τ sig Unit (Elt F) ℕ (Pipeline.UD sig nD τ) ℕ)}
variable [Reads c R arg3] [Reads c R arg4] [Reads c R arg5] [Reads c R arg6] [Reads c R arg7] [Reads c R arg8] [Reads c R arg9] [Reads c R arg10] [Reads c R arg11] [Reads c R arg12] [Reads c R arg13] [Reads c R arg14] [Reads c R arg15] [Reads c R arg16] [Reads c R arg17] [Reads c R arg18] [Reads c R arg19] [Reads c R arg20]
variable [Writes c R arg21] [Writes c R arg22] [Writes c R arg23] [Writes c R arg24] [Writes c R arg27] [Writes c R arg28] [Writes c R arg29] [Writes c R arg30] [Writes c R arg31] [Writes c R arg32] [Writes c R arg33] [Writes c R arg34] [Writes c R arg35]

/-- The slot a step reads, before it. -/
def Pre : sProp (MT nD τ sig Unit (Elt F) ℕ (Pipeline.UD sig nD τ) ℕ) := if t.val = 0 then Free c V (sl t) else Flying c V (sl t)
/-- The slot a step fills, after it. -/
def Post : sProp (MT nD τ sig Unit (Elt F) ℕ (Pipeline.UD sig nD τ) ℕ) := if t.val < 127 then Flying c V (ot t) else Free c V (ot t)

theorem Does.pre {P P' Q : sProp (MT nD τ sig Unit (Elt F) ℕ (Pipeline.UD sig nD τ) ℕ)} {α : Type}
    {p : Prog (TpuEff nD τ sig (Elt F) Λ₀ .tc) α} (h : P ⊢ P') (h' : Does c P' p Q) : Does c P p Q :=
  Does.conseq h' h .rfl

theorem begins (s : Fin 2) (σ : Fin 8 → Finset S16x4096x1024.Idx) (X : sProp (MT nD τ sig Unit (Elt F) ℕ (Pipeline.UD sig nD τ) ℕ)) :
    iprop(Free c V s ∗ X) ⊢ |={Set.univ}=> iprop(Issuing c V s σ 0 ∗ Rest c V s σ ∗ X) := by
  iintro ⟨HF, HX⟩
  imod (start c V s σ) $$ HF with ⟨HI, HR⟩
  imodintro
  isplitl [HI]; · iexact HI
  isplitl [HR] <;> iassumption

theorem ends (s : Fin 2) (σ : Fin 8 → Finset S16x4096x1024.Idx) (X : sProp (MT nD τ sig Unit (Elt F) ℕ (Pipeline.UD sig nD τ) ℕ)) :
    iprop(Issuing c V s σ 8 ∗ Rest c V s σ ∗ X) ⊢ iprop(Flying c V s ∗ X) := by
  iintro ⟨HI, HR, HX⟩
  isplitr [HX]
  · iapply (issued c V s σ)
    isplitl [HI] <;> iassumption
  · iexact HX

theorem swap3 {A B C : sProp (MT nD τ sig Unit (Elt F) ℕ (Pipeline.UD sig nD τ) ℕ)} : iprop(A ∗ B ∗ C) ⊢ iprop(B ∗ A ∗ C) := by
  iintro ⟨HA, HB, HC⟩
  isplitl [HB]; · iexact HB
  isplitl [HA] <;> iassumption

theorem rot3 {A B C : sProp (MT nD τ sig Unit (Elt F) ℕ (Pipeline.UD sig nD τ) ℕ)} : iprop(A ∗ B ∗ C) ⊢ iprop(B ∗ C ∗ A) := by
  iintro ⟨HA, HB, HC⟩
  isplitl [HB]; · iexact HB
  isplitl [HC] <;> iassumption

theorem turn3 {A B C : sProp (MT nD τ sig Unit (Elt F) ℕ (Pipeline.UD sig nD τ) ℕ)} : iprop(A ∗ B ∗ C) ⊢ iprop(C ∗ B ∗ A) := by
  iintro ⟨HA, HB, HC⟩
  isplitl [HC]; · iexact HC
  isplitl [HB] <;> iassumption

set_option maxHeartbeats 4000000 in
theorem part5 : Does c iprop(R ∗ Pre c V t ∗ Free c V (ot t)) (k0_part5 (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35) iprop(R ∗ Flying c V (sl t) ∗ Post c V t) := by
  rw [k0_part5_eq_skeleton]; unfold k0_part5_skel
  refine Does.pre c swap3 ?_
  have hpre : k0_cond1 (grid0.coords t) = 1#1 → Pre c V t = Free c V (sl t) := fun h => if_pos ((cond1 t).1 h)
  have hpre' : ¬ k0_cond1 (grid0.coords t) = 1#1 → Pre c V t = Flying c V (sl t) := fun h => if_neg (fun h' => h ((cond1 t).2 h'))
  have hpost : k0_cond2 (grid0.coords t) = 1#1 → Post c V t = Flying c V (ot t) := fun h => if_pos ((cond2 t).1 h)
  have hpost' : ¬ k0_cond2 (grid0.coords t) = 1#1 → Post c V t = Free c V (ot t) := fun h => if_neg (fun h' => h ((cond2 t).2 h'))
  with_reducible refine Does.ite (fun k0_h1 => ?_) (fun k0_h1 => ?_)
  · rw [hpre k0_h1]
    refine Does.after (begins c V (sl t) (σ1 (grid0.coords t) k0_h1) _) ?_
    refine Does.bind (Does.frame (by with_reducible apply part1)) (fun _ => ?_)
    refine Does.bind (Does.frame (by with_reducible apply part2)) (fun _ => ?_)
    with_reducible refine Does.bind (Does.frame (issue c V (sl t) (σ1 (grid0.coords t) k0_h1) 6 (by decide) (off9 t) (off1 t) rfl)) (fun _ => ?_)
    with_reducible refine Does.bind (Does.frame (issue c V (sl t) (σ1 (grid0.coords t) k0_h1) 7 (by decide) (off10 t) (off1 t) rfl)) (fun _ => ?_)
    refine Does.pre c (ends c V (sl t) _ _) ?_
    with_reducible refine Does.ite (fun k0_h2 => ?_) (fun k0_h2 => ?_)
    · rw [hpost k0_h2]
      refine Does.pre c turn3 ?_
      refine Does.after (begins c V (ot t) (σ2 (grid0.coords t) k0_h2) _) ?_
      refine Does.bind (by with_reducible apply part3) (fun x => ?_)
      obtain ⟨x1, x2⟩ := x
      refine Does.bind (Does.frame (by with_reducible apply part4)) (fun _ => ?_)
      with_reducible refine Does.bind (Does.frame (issue c V (ot t) (σ2 (grid0.coords t) k0_h2) 5 (by decide) (off18 t) (off11 t) rfl)) (fun _ => ?_)
      with_reducible refine Does.bind (Does.frame (issue c V (ot t) (σ2 (grid0.coords t) k0_h2) 6 (by decide) (off19 t) (off11 t) rfl)) (fun _ => ?_)
      with_reducible refine Does.bind (Does.frame (issue c V (ot t) (σ2 (grid0.coords t) k0_h2) 7 (by decide) (off20 t) (off11 t) rfl)) (fun _ => ?_)
      refine Does.pre c (BIBase.Entails.trans (ends c V (ot t) _ _) rot3) ?_
      with_reducible refine Does.ite (fun k0_h3 => ?_) (fun k0_h3 => ?_)
      · with_reducible refine Does.bind (Does.frame Does.load) (fun _ => ?_)
        with_reducible refine Does.bind (Does.frame Does.store) (fun _ => ?_)
        with_reducible refine Does.bind (Does.frame Does.load) (fun _ => ?_)
        with_reducible refine Does.bind (Does.frame Does.store) (fun _ => ?_)
        with_reducible refine Does.bind (Does.frame Does.load) (fun _ => ?_)
        with_reducible refine Does.bind (Does.frame Does.store) (fun _ => ?_)
        with_reducible refine Does.ite (fun k0_h4 => ?_) (fun k0_h4 => ?_)
        · with_reducible refine Does.bind (Does.frame Does.load) (fun _ => ?_)
          with_reducible refine Does.bind (Does.frame Does.store) (fun _ => ?_)
          with_reducible exact Does.pure _
        · with_reducible exact Does.pure _
      · skip
        with_reducible refine Does.ite (fun k0_h4 => ?_) (fun k0_h4 => ?_)
        · with_reducible refine Does.bind (Does.frame Does.load) (fun _ => ?_)
          with_reducible refine Does.bind (Does.frame Does.store) (fun _ => ?_)
          with_reducible exact Does.pure _
        · with_reducible exact Does.pure _
    · rw [hpost' k0_h2]
      refine Does.pre c swap3 ?_
      with_reducible refine Does.ite (fun k0_h3 => ?_) (fun k0_h3 => ?_)
      · with_reducible refine Does.bind (Does.frame Does.load) (fun _ => ?_)
        with_reducible refine Does.bind (Does.frame Does.store) (fun _ => ?_)
        with_reducible refine Does.bind (Does.frame Does.load) (fun _ => ?_)
        with_reducible refine Does.bind (Does.frame Does.store) (fun _ => ?_)
        with_reducible refine Does.bind (Does.frame Does.load) (fun _ => ?_)
        with_reducible refine Does.bind (Does.frame Does.store) (fun _ => ?_)
        with_reducible refine Does.ite (fun k0_h4 => ?_) (fun k0_h4 => ?_)
        · with_reducible refine Does.bind (Does.frame Does.load) (fun _ => ?_)
          with_reducible refine Does.bind (Does.frame Does.store) (fun _ => ?_)
          with_reducible exact Does.pure _
        · with_reducible exact Does.pure _
      · skip
        with_reducible refine Does.ite (fun k0_h4 => ?_) (fun k0_h4 => ?_)
        · with_reducible refine Does.bind (Does.frame Does.load) (fun _ => ?_)
          with_reducible refine Does.bind (Does.frame Does.store) (fun _ => ?_)
          with_reducible exact Does.pure _
        · with_reducible exact Does.pure _
  · rw [hpre' k0_h1]
    with_reducible refine Does.ite (fun k0_h2 => ?_) (fun k0_h2 => ?_)
    · rw [hpost k0_h2]
      refine Does.pre c turn3 ?_
      refine Does.after (begins c V (ot t) (σ2 (grid0.coords t) k0_h2) _) ?_
      refine Does.bind (by with_reducible apply part3) (fun x => ?_)
      obtain ⟨x1, x2⟩ := x
      refine Does.bind (Does.frame (by with_reducible apply part4)) (fun _ => ?_)
      with_reducible refine Does.bind (Does.frame (issue c V (ot t) (σ2 (grid0.coords t) k0_h2) 5 (by decide) (off18 t) (off11 t) rfl)) (fun _ => ?_)
      with_reducible refine Does.bind (Does.frame (issue c V (ot t) (σ2 (grid0.coords t) k0_h2) 6 (by decide) (off19 t) (off11 t) rfl)) (fun _ => ?_)
      with_reducible refine Does.bind (Does.frame (issue c V (ot t) (σ2 (grid0.coords t) k0_h2) 7 (by decide) (off20 t) (off11 t) rfl)) (fun _ => ?_)
      refine Does.pre c (BIBase.Entails.trans (ends c V (ot t) _ _) rot3) ?_
      with_reducible refine Does.ite (fun k0_h3 => ?_) (fun k0_h3 => ?_)
      · with_reducible refine Does.bind (Does.frame Does.load) (fun _ => ?_)
        with_reducible refine Does.bind (Does.frame Does.store) (fun _ => ?_)
        with_reducible refine Does.bind (Does.frame Does.load) (fun _ => ?_)
        with_reducible refine Does.bind (Does.frame Does.store) (fun _ => ?_)
        with_reducible refine Does.bind (Does.frame Does.load) (fun _ => ?_)
        with_reducible refine Does.bind (Does.frame Does.store) (fun _ => ?_)
        with_reducible refine Does.ite (fun k0_h4 => ?_) (fun k0_h4 => ?_)
        · with_reducible refine Does.bind (Does.frame Does.load) (fun _ => ?_)
          with_reducible refine Does.bind (Does.frame Does.store) (fun _ => ?_)
          with_reducible exact Does.pure _
        · with_reducible exact Does.pure _
      · skip
        with_reducible refine Does.ite (fun k0_h4 => ?_) (fun k0_h4 => ?_)
        · with_reducible refine Does.bind (Does.frame Does.load) (fun _ => ?_)
          with_reducible refine Does.bind (Does.frame Does.store) (fun _ => ?_)
          with_reducible exact Does.pure _
        · with_reducible exact Does.pure _
    · rw [hpost' k0_h2]
      refine Does.pre c swap3 ?_
      with_reducible refine Does.ite (fun k0_h3 => ?_) (fun k0_h3 => ?_)
      · with_reducible refine Does.bind (Does.frame Does.load) (fun _ => ?_)
        with_reducible refine Does.bind (Does.frame Does.store) (fun _ => ?_)
        with_reducible refine Does.bind (Does.frame Does.load) (fun _ => ?_)
        with_reducible refine Does.bind (Does.frame Does.store) (fun _ => ?_)
        with_reducible refine Does.bind (Does.frame Does.load) (fun _ => ?_)
        with_reducible refine Does.bind (Does.frame Does.store) (fun _ => ?_)
        with_reducible refine Does.ite (fun k0_h4 => ?_) (fun k0_h4 => ?_)
        · with_reducible refine Does.bind (Does.frame Does.load) (fun _ => ?_)
          with_reducible refine Does.bind (Does.frame Does.store) (fun _ => ?_)
          with_reducible exact Does.pure _
        · with_reducible exact Does.pure _
      · skip
        with_reducible refine Does.ite (fun k0_h4 => ?_) (fun k0_h4 => ?_)
        · with_reducible refine Does.bind (Does.frame Does.load) (fun _ => ?_)
          with_reducible refine Does.bind (Does.frame Does.store) (fun _ => ?_)
          with_reducible exact Does.pure _
        · with_reducible exact Does.pure _

end Cert.MixerIdeal.Body

end
-- ==== Proof.MixerIdeal.Whole.lean ====
module

public import proofs.«01_k».proof.Proof.MixerIdeal.P5
public import proofs.«01_k».proof.Proof.MixerIdeal.Parts

@[expose] public section

set_option maxRecDepth 16384
set_option Elab.async false

/-!
# The mixer's body, whole
-/

noncomputable section

namespace Cert.MixerIdeal.Body

open Cert.MixerIdeal Cert.MixerIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (V : Buf (Elt F) ((XA.view.loc (c : Thread nD τ)) : Loc nD τ sig)) (t : Fin cfg0.N)

variable (harg2 : XA.IsWhole)
variable (arg3 : Memref sig .tc .vmem S1x1024 .f32)
variable (harg3 : arg3.IsWhole)
variable (arg4 : Memref sig .tc .vmem S1024x2560 .bf16)
variable (harg4 : arg4.IsWhole)
variable (arg5 : Memref sig .tc .vmem S2x256x256 .bf16)
variable (harg5 : arg5.IsWhole)
variable (arg6 : Memref sig .tc .vmem S1x512 .f32)
variable (harg6 : arg6.IsWhole)
variable (arg7 : Memref sig .tc .vmem S4x1024 .f32)
variable (harg7 : arg7.IsWhole)
variable (arg8 : Memref sig .tc .vmem S1x1024 .f32)
variable (harg8 : arg8.IsWhole)
variable (arg9 : Memref sig .tc .vmem S4x256x256 .bf16)
variable (harg9 : arg9.IsWhole)
variable (arg10 : Memref sig .tc .vmem S4x256x256 .bf16)
variable (harg10 : arg10.IsWhole)
variable (arg11 : Memref sig .tc .vmem S1x1024 .f32)
variable (harg11 : arg11.IsWhole)
variable (arg12 : Memref sig .tc .vmem S1x1024 .f32)
variable (harg12 : arg12.IsWhole)
variable (arg13 : Memref sig .tc .vmem S1x1024 .f32)
variable (harg13 : arg13.IsWhole)
variable (arg14 : Memref sig .tc .vmem S512x1024 .bf16)
variable (harg14 : arg14.IsWhole)
variable (arg15 : Memref sig .tc .vmem S1024x1024 .bf16)
variable (harg15 : arg15.IsWhole)
variable (arg16 : Memref sig .tc .vmem S1024x1024 .bf16)
variable (harg16 : arg16.IsWhole)
variable (arg17 : Memref sig .tc .vmem S1x1024 .f32)
variable (harg17 : arg17.IsWhole)
variable (arg18 : Memref sig .tc .vmem S32x1024 .bf16)
variable (harg18 : arg18.IsWhole)
variable (arg19 : Memref sig .tc .vmem S32x512 .f32)
variable (harg19 : arg19.IsWhole)
variable (arg20 : Memref sig .tc .vmem S8x1024x256 .bf16)
variable (harg20 : arg20.IsWhole)
variable (arg21 : Memref sig .tc .vmem S512x1024 .f32)
variable (harg21 : arg21.IsWhole)
variable (arg22 : Memref sig .tc .vmem S512x1152 .f32)
variable (harg22 : arg22.IsWhole)
variable (arg23 : Memref sig .tc .vmem S32x512 .f32)
variable (harg23 : arg23.IsWhole)
variable (arg24 : Memref sig .tc .vmem S8x512 .f32)
variable (harg24 : arg24.IsWhole)
variable (harg25 : XB.IsWhole)
variable (arg27 : Memref sig .tc .vmem S640x512 .f32)
variable (harg27 : arg27.IsWhole)
variable (arg28 : Memref sig .tc .vmem S536x1024 .f32)
variable (harg28 : arg28.IsWhole)
variable (arg29 : Memref sig .tc .vmem S512x1024 .f32)
variable (harg29 : arg29.IsWhole)
variable (arg30 : Memref sig .tc .vmem S512x1024 .f32)
variable (harg30 : arg30.IsWhole)
variable (arg31 : Memref sig .tc .vmem S512x1024 .f32)
variable (harg31 : arg31.IsWhole)
variable (arg32 : Memref sig .tc .vmem S512x1024 .bf16)
variable (harg32 : arg32.IsWhole)
variable (arg33 : Memref sig .tc .vmem S8x512x256 .f32)
variable (harg33 : arg33.IsWhole)
variable (arg34 : Memref sig .tc .vmem S8x1024 .f32)
variable (harg34 : arg34.IsWhole)
variable (arg35 : Memref sig .tc .vmem S32x512 .f32)
variable (harg35 : arg35.IsWhole)
variable {R : sProp (MT nD τ sig Unit (Elt F) ℕ (Pipeline.UD sig nD τ) ℕ)}
variable [Reads c R arg3] [Reads c R arg4] [Reads c R arg5] [Reads c R arg6] [Reads c R arg7] [Reads c R arg8] [Reads c R arg9] [Reads c R arg10] [Reads c R arg11] [Reads c R arg12] [Reads c R arg13] [Reads c R arg14] [Reads c R arg15] [Reads c R arg16] [Reads c R arg17] [Reads c R arg18] [Reads c R arg19] [Reads c R arg20]
variable [Writes c R arg21] [Writes c R arg22] [Writes c R arg23] [Writes c R arg24] [Writes c R arg27] [Writes c R arg28] [Writes c R arg29] [Writes c R arg30] [Writes c R arg31] [Writes c R arg32] [Writes c R arg33] [Writes c R arg34] [Writes c R arg35]

theorem Does.ex {A : Type} {P : A → sProp (MT nD τ sig Unit (Elt F) ℕ (Pipeline.UD sig nD τ) ℕ)} {Q : sProp (MT nD τ sig Unit (Elt F) ℕ (Pipeline.UD sig nD τ) ℕ)} {α : Type}
    {p : Prog (TpuEff nD τ sig (Elt F) Λ₀ .tc) α} (h : ∀ a, Does c (P a) p Q) : Does c iprop(∃ a, P a) p Q := by
  unfold Does at h ⊢
  iintro ⟨%a, H⟩
  iapply h a $$ H

theorem opens (X Y Z : sProp (MT nD τ sig Unit (Elt F) ℕ (Pipeline.UD sig nD τ) ℕ)) (s : Fin 2) :
    iprop((X ∗ Flying c V s ∗ Y) ∗ Z) ⊢ iprop(∃ σ, (Bat c V s σ 8 (0 * credit) ∗ Z) ∗ Rest c V s σ ∗ X ∗ Y) := by
  unfold Flying
  rw [Nat.zero_mul]
  iintro ⟨⟨HX, ⟨%σ, HB, HR⟩, HY⟩, HZ⟩
  iexists σ
  isplitl [HB HZ]
  · isplitl [HB] <;> iassumption
  isplitl [HR]; · iexact HR
  isplitl [HX] <;> iassumption

theorem gathers {A B C D : sProp (MT nD τ sig Unit (Elt F) ℕ (Pipeline.UD sig nD τ) ℕ)} :
    iprop(A ∗ B ∗ C ∗ D) ⊢ iprop((C ∗ A ∗ B) ∗ D) := by
  iintro ⟨HA, HB, HC, HD⟩
  isplitr [HD]
  · isplitl [HC]; · iexact HC
    isplitl [HA] <;> iassumption
  · iexact HD

theorem settles {A B C D : sProp (MT nD τ sig Unit (Elt F) ℕ (Pipeline.UD sig nD τ) ℕ)} :
    iprop((A ∗ B ∗ C) ∗ D) ⊢ iprop(A ∗ (B ∗ D) ∗ C) := by
  iintro ⟨⟨HA, HB, HC⟩, HD⟩
  isplitl [HA]; · iexact HA
  isplitr [HC]
  · isplitl [HB] <;> iassumption
  · iexact HC

theorem regroup {A B C D : sProp (MT nD τ sig Unit (Elt F) ℕ (Pipeline.UD sig nD τ) ℕ)} :
    iprop(A ∗ (B ∗ C) ∗ D) ⊢ iprop((A ∗ B ∗ C) ∗ D) := by
  iintro ⟨HA, HB, HD⟩
  isplitr [HD]
  · isplitl [HA] <;> iassumption
  · iexact HD

set_option maxHeartbeats 8000000 in
theorem part37 : Does c iprop(R ∗ (Pre c V t ∗ Free c V (ot t)) ∗ Owes c) (k0_part37 (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35) iprop(R ∗ (Free c V (sl t) ∗ Post c V t) ∗ Owes c) := by
  rw [k0_part37_eq_skeleton]; unfold k0_part37_skel
  refine Does.pre c regroup ?_
  refine Does.bind (Does.frame (by with_reducible apply part5)) (fun x => ?_)
  obtain ⟨x0, x1, x2, x3⟩ := x
  refine Does.pre c (opens c V _ _ _ _) ?_
  refine Does.ex c fun σ => ?_
  refine Does.bind (Does.frame (by with_reducible apply part6)) (fun x => ?_)
  refine Does.bind (Does.frame (by with_reducible apply part7)) (fun x => ?_)
  refine Does.pre c gathers ?_
  refine Does.bind (Does.frame (by with_reducible apply part8)) (fun x => ?_)
  obtain ⟨x0, x1, x2, x3, x4⟩ := x
  refine Does.pre c settles ?_
  refine Does.bind (Does.frame (by with_reducible apply part9)) (fun x => ?_)
  obtain ⟨x0, x1, x2, x3, x4⟩ := x
  refine Does.bind (Does.frame (by with_reducible apply part10)) (fun x => ?_)
  refine Does.bind (Does.frame (by with_reducible apply part11)) (fun x => ?_)
  refine Does.bind (Does.frame (by with_reducible apply part12)) (fun x => ?_)
  obtain ⟨x0, x1, x2, x3, x4, x5⟩ := x
  refine Does.bind (Does.frame (by with_reducible apply part13)) (fun x => ?_)
  obtain ⟨x0, x1, x2⟩ := x
  refine Does.bind (Does.frame (by with_reducible apply part14)) (fun x => ?_)
  refine Does.bind (Does.frame (by with_reducible apply part15)) (fun x => ?_)
  refine Does.bind (Does.frame (by with_reducible apply part16)) (fun x => ?_)
  refine Does.bind (Does.frame (by with_reducible apply part17)) (fun x => ?_)
  obtain ⟨x0, x1⟩ := x
  refine Does.bind (Does.frame (by with_reducible apply part18)) (fun x => ?_)
  obtain ⟨x0, x1⟩ := x
  refine Does.bind (Does.frame (by with_reducible apply part19)) (fun x => ?_)
  refine Does.bind (Does.frame (by with_reducible apply part20)) (fun x => ?_)
  refine Does.bind (Does.frame (by with_reducible apply part21)) (fun x => ?_)
  obtain ⟨x0, x1⟩ := x
  refine Does.bind (Does.frame (by with_reducible apply part22)) (fun x => ?_)
  obtain ⟨x0, x1⟩ := x
  refine Does.bind (Does.frame (by with_reducible apply part23)) (fun x => ?_)
  obtain ⟨x0, x1⟩ := x
  refine Does.bind (Does.frame (by with_reducible apply part24)) (fun x => ?_)
  refine Does.bind (Does.frame (by with_reducible apply part25)) (fun x => ?_)
  obtain ⟨x0, x1⟩ := x
  refine Does.bind (Does.frame (by with_reducible apply part26)) (fun x => ?_)
  obtain ⟨x0, x1⟩ := x
  refine Does.bind (Does.frame (by with_reducible apply part27)) (fun x => ?_)
  obtain ⟨x0, x1⟩ := x
  refine Does.bind (Does.frame (by with_reducible apply part28)) (fun x => ?_)
  obtain ⟨x0, x1⟩ := x
  refine Does.bind (Does.frame (by with_reducible apply part29)) (fun x => ?_)
  refine Does.bind (Does.frame (by with_reducible apply part30)) (fun x => ?_)
  refine Does.bind (Does.frame (by with_reducible apply part31)) (fun x => ?_)
  obtain ⟨x0, x1⟩ := x
  refine Does.bind (Does.frame (by with_reducible apply part32)) (fun x => ?_)
  obtain ⟨x0, x1, x2, x3, x4⟩ := x
  refine Does.bind (Does.frame (by with_reducible apply part33)) (fun x => ?_)
  obtain ⟨x0, x1, x2⟩ := x
  refine Does.bind (Does.frame (by with_reducible apply part34)) (fun x => ?_)
  obtain ⟨x0, x1, x2, x3, x4⟩ := x
  refine Does.bind (Does.frame (by with_reducible apply part35)) (fun x => ?_)
  obtain ⟨x0, x1, x2, x3, x4⟩ := x
  refine Does.bind (Does.frame (by with_reducible apply part36)) (fun x => ?_)
  obtain ⟨x0, x1, x2, x3, x4, x5, x6⟩ := x
  with_reducible refine Does.bind (Does.frame Does.load) (fun _ => ?_)
  with_reducible refine Does.bind (Does.frame Does.store) (fun _ => ?_)
  with_reducible exact Does.pure _

set_option maxHeartbeats 8000000 in
theorem whole : Does c iprop(R ∗ (Pre c V t ∗ Free c V (ot t)) ∗ Owes c) (cc0_mixer (grid0.coords t) XA harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 XB harg25 cc0_scratch1 arg27 harg27 arg28 harg28 arg29 harg29 arg30 harg30 arg31 harg31 arg32 harg32 arg33 harg33 arg34 harg34 arg35 harg35) iprop(R ∗ (Free c V (sl t) ∗ Post c V t) ∗ Owes c) := by
  rw [cc0_mixer_eq_skeleton]; unfold cc0_mixer_skel
  refine Does.bind (by with_reducible apply part37) (fun x => ?_)
  obtain ⟨x0, x1⟩ := x
  with_reducible refine Does.bind (Does.frame Does.load) (fun _ => ?_)
  with_reducible refine Does.bind (Does.frame Does.store) (fun _ => ?_)
  with_reducible refine Does.bind (Does.frame Does.load) (fun _ => ?_)
  with_reducible refine Does.bind (Does.frame Does.store) (fun _ => ?_)
  with_reducible refine Does.bind (Does.frame Does.load) (fun _ => ?_)
  with_reducible refine Does.bind (Does.frame Does.store) (fun _ => ?_)
  with_reducible exact Does.pure _

end Cert.MixerIdeal.Body

end
-- ==== Proof.MixerIdeal.Between.lean ====
module

public import proofs.«01_k».proof.Proof.MixerIdeal.Whole

@[expose] public section

set_option maxRecDepth 16384
set_option Elab.async false

/-!
# What the core holds between two steps
-/

noncomputable section

namespace Cert.MixerIdeal.Body

open Cert.MixerIdeal Cert.MixerIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (c : Dev nD) (V : Buf (Elt F) ((XA.view.loc (c : Thread nD τ)) : Loc nD τ sig))

/-- A buffer of the core's own, whole, at some contents. -/
abbrev Own (b : Ref sig .tc) : sProp (MT nD τ sig Unit (Elt F) ℕ (Pipeline.UD sig nD τ) ℕ) :=
  iprop(∃ f : Buf (Elt F) ((c : Thread nD τ).loc b), ((c : Thread nD τ).loc b) ↦{fullShare} f)

/-- The buffers beside the token buffer. -/
def Scratch : sProp (MT nD τ sig Unit (Elt F) ℕ (Pipeline.UD sig nD τ) ℕ) :=
  iprop(Own c cc0_scratch2 ∗ Own c cc0_scratch3 ∗ Own c cc0_scratch4 ∗ Own c cc0_scratch5 ∗ Own c cc0_scratch6
    ∗ Own c cc0_scratch7 ∗ Own c cc0_scratch8 ∗ Own c cc0_scratch9 ∗ Own c cc0_scratch10)

def slotAt (n : ℕ) : Fin 2 := ⟨n % 2, Nat.mod_lt _ (by decide)⟩

/-- The slot of step `n`, before it. -/
def Now (n : ℕ) : sProp (MT nD τ sig Unit (Elt F) ℕ (Pipeline.UD sig nD τ) ℕ) :=
  if n = 0 ∨ n = 128 then Free c V (slotAt n) else Flying c V (slotAt n)

/-- What is held beside the buffers, the two slots apart. -/
def Still : sProp (MT nD τ sig Unit (Elt F) ℕ (Pipeline.UD sig nD τ) ℕ) :=
  iprop((∃ r, prngReg c r) ∗ (XA.view.loc (c : Thread nD τ) ↦{shareDrop fullShare 2} V))

def Between (n : ℕ) : sProp (MT nD τ sig Unit (Elt F) ℕ (Pipeline.UD sig nD τ) ℕ) :=
  iprop(Scratch c ∗ Still c V ∗ Now c V n ∗ Free c V (slotAt (n + 1)))

theorem now_pre (t : Fin cfg0.N) : Now c V t.val = Pre c V t := by
  have h : t.val < 128 := lt_of_lt_of_eq t.isLt N_0
  unfold Now Pre
  by_cases h0 : t.val = 0
  · rw [if_pos (Or.inl h0), if_pos h0]; rfl
  · rw [if_neg (by omega), if_neg h0]; rfl

theorem now_post (t : Fin cfg0.N) : Now c V (t.val + 1) = Post c V t := by
  have h : t.val < 128 := lt_of_lt_of_eq t.isLt N_0
  unfold Now Post
  by_cases h0 : t.val < 127
  · rw [if_neg (by omega), if_pos h0]; rfl
  · rw [if_pos (by omega), if_neg h0]; rfl

theorem slot_next (t : Fin cfg0.N) : slotAt (t.val + 1 + 1) = sl t := by
  apply Fin.ext
  show (t.val + 1 + 1) % 2 = t.val % 2
  omega

/-- The semaphores of the kernel's own. -/
def own (k : Fin 2) : SemLoc sig := .dma (cell k)

theorem own_facts : Pipeline.OwnSemFacts spec0 own := by decide

theorem slots_split (f : Buf (Elt F) (XB.view.loc (c : Thread nD τ))) :
    (XB.view.loc (c : Thread nD τ) ↦{fullShare} f : sProp 𝕄)
      ⊢ iprop((XB.view.loc (c : Thread nD τ) ↦[slot 0]{fullShare} f) ∗ (XB.view.loc (c : Thread nD τ) ↦[slot 1]{fullShare} f)) := by
  have e : (Finset.univ : Finset S2x64x8x1024.Idx) \ slot 0 = slot 1 := by
    rw [← slots_cover, Finset.union_sdiff_left]
    exact Finset.sdiff_eq_self_of_disjoint slots_disjoint.symm
  have h := (pointsTo_split_subset (ℓ := XB.view.loc (c : Thread nD τ)) (q := fullShare) (f := f) (Ix := Unit) (Name := ℕ) (U := Pipeline.UD sig nD τ) (Lvl := ℕ)
    (Finset.subset_univ (slot 0))).1
  rw [show (Finset.univ : Finset (Idx (XB.view.loc (c : Thread nD τ)))) \ slot 0 = slot 1 from e] at h
  exact h

theorem slots_join (f g : Buf (Elt F) (XB.view.loc (c : Thread nD τ))) :
    (iprop((XB.view.loc (c : Thread nD τ) ↦[slot 0]{fullShare} f) ∗ (XB.view.loc (c : Thread nD τ) ↦[slot 1]{fullShare} g)) : sProp 𝕄)
      ⊢ Own c cc0_scratch0 := by
  have e : (Finset.univ : Finset S2x64x8x1024.Idx) \ slot 0 = slot 1 := by
    rw [← slots_cover, Finset.union_sdiff_left]
    exact Finset.sdiff_eq_self_of_disjoint slots_disjoint.symm
  have h := pointsTo_join_subset (ℓ := XB.view.loc (c : Thread nD τ)) (q := fullShare) (f := g) (g := f) (Ix := Unit) (Name := ℕ) (U := Pipeline.UD sig nD τ) (Lvl := ℕ)
    (Finset.subset_univ (slot 0))
  rw [show (Finset.univ : Finset (Idx (XB.view.loc (c : Thread nD τ)))) \ slot 0 = slot 1 from e] at h
  refine BIBase.Entails.trans h ?_
  iintro H
  iexists _
  iexact H

end Cert.MixerIdeal.Body

end
-- ==== Proof.MixerIdeal.Point.lean ====
module

public import proofs.«01_k».proof.Proof.MixerIdeal.Between

@[expose] public section

set_option maxRecDepth 16384
set_option Elab.async false

/-!
# One step
-/

noncomputable section

namespace Cert.MixerIdeal.Body

open Cert.MixerIdeal Cert.MixerIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (c : Dev nD) (V : Buf (Elt F) ((XA.view.loc (c : Thread nD τ)) : Loc nD τ sig))

/-- The current buffers of the windows, at some contents. -/
def Windows (t : Fin cfg0.N) : sProp (MT nD τ sig Unit (Elt F) ℕ (Pipeline.UD sig nD τ) ℕ) :=
  bigSep Finset.univ fun w : Fin cfg0.W => iprop(∃ X, owns (c : Thread nD τ) ((cfg0.win w).stage (cfg0.slots t w)) fullShare X)

/-- What a step loads from and stores to, the token buffer apart. -/
def Mem (t : Fin cfg0.N) : sProp (MT nD τ sig Unit (Elt F) ℕ (Pipeline.UD sig nD τ) ℕ) := iprop(Windows c t ∗ Scratch c)

section
variable {c : Dev nD} {A B : sProp (MT nD τ sig Unit (Elt F) ℕ (Pipeline.UD sig nD τ) ℕ)} {sp : Space} {s : Shape} {e : EltTy} {m : Memref sig .tc sp s e}

theorem Writes.inl (h : Writes c A m) : Writes c iprop(A ∗ B) m where
  take := by
    iintro ⟨HA, HB⟩
    ihave H := h.take $$ HA
    icases H with ⟨%f, Hf, Hk⟩
    iexists f
    isplitl [Hf]; · iexact Hf
    iintro %g Hg
    isplitr [HB]
    · ispecialize Hk $$ %g
      iapply Hk; iexact Hg
    · iexact HB

theorem Writes.inr (h : Writes c B m) : Writes c iprop(A ∗ B) m where
  take := by
    iintro ⟨HA, HB⟩
    ihave H := h.take $$ HB
    icases H with ⟨%f, Hf, Hk⟩
    iexists f
    isplitl [Hf]; · iexact Hf
    iintro %g Hg
    isplitl [HA]; · iexact HA
    ispecialize Hk $$ %g
    iapply Hk; iexact Hg

end

theorem own_writes (b : Ref sig .tc) : Writes c (Own (F := F) c b) (Memref.whole b) where
  take := by
    iintro ⟨%f, Hf⟩
    iexists f
    rw [show (Memref.whole b).view.set = Finset.univ from View.set_whole _]
    isplitl [Hf]; · iexact Hf
    iintro %g Hg
    iexists g
    iexact Hg

theorem window_writes (t : Fin cfg0.N) (w : Fin cfg0.W) : Writes c (Windows (F := F) c t) ((cfg0.win w).stage (cfg0.slots t w)) where
  take := by
    have split : Windows (F := F) c t = iprop((∃ X, owns (c : Thread nD τ) ((cfg0.win w).stage (cfg0.slots t w)) fullShare X) ∗
        bigSep (Finset.univ.erase w) fun w : Fin cfg0.W => iprop(∃ X, owns (c : Thread nD τ) ((cfg0.win w).stage (cfg0.slots t w)) fullShare X)) :=
      bigSep_erase (Finset.mem_univ w)
    rw [split]
    iintro ⟨Hw, Hr⟩
    unfold owns
    icases Hw with ⟨%X, %f, -, Hf⟩
    iexists f
    isplitl [Hf]; · iexact Hf
    iintro %g Hg
    isplitr [Hr]
    · iexists _
      iexists g
      isplitr
      · ipureintro; rfl
      · iexact Hg
    · iexact Hr

instance (t : Fin cfg0.N) : Writes (sp := .vmem) (s := S1x1024) (e := .f32) c (Mem (F := F) c t) (win0_0.stage (cfg0.slots t 0)) :=
  Writes.inl (window_writes c t 0)

instance (t : Fin cfg0.N) : Writes (sp := .vmem) (s := S1024x2560) (e := .bf16) c (Mem (F := F) c t) (win0_1.stage (cfg0.slots t 1)) :=
  Writes.inl (window_writes c t 1)

instance (t : Fin cfg0.N) : Writes (sp := .vmem) (s := S2x256x256) (e := .bf16) c (Mem (F := F) c t) (win0_2.stage (cfg0.slots t 2)) :=
  Writes.inl (window_writes c t 2)

instance (t : Fin cfg0.N) : Writes (sp := .vmem) (s := S1x512) (e := .f32) c (Mem (F := F) c t) (win0_3.stage (cfg0.slots t 3)) :=
  Writes.inl (window_writes c t 3)

instance (t : Fin cfg0.N) : Writes (sp := .vmem) (s := S4x1024) (e := .f32) c (Mem (F := F) c t) (win0_4.stage (cfg0.slots t 4)) :=
  Writes.inl (window_writes c t 4)

instance (t : Fin cfg0.N) : Writes (sp := .vmem) (s := S1x1024) (e := .f32) c (Mem (F := F) c t) (win0_5.stage (cfg0.slots t 5)) :=
  Writes.inl (window_writes c t 5)

instance (t : Fin cfg0.N) : Writes (sp := .vmem) (s := S4x256x256) (e := .bf16) c (Mem (F := F) c t) (win0_6.stage (cfg0.slots t 6)) :=
  Writes.inl (window_writes c t 6)

instance (t : Fin cfg0.N) : Writes (sp := .vmem) (s := S4x256x256) (e := .bf16) c (Mem (F := F) c t) (win0_7.stage (cfg0.slots t 7)) :=
  Writes.inl (window_writes c t 7)

instance (t : Fin cfg0.N) : Writes (sp := .vmem) (s := S1x1024) (e := .f32) c (Mem (F := F) c t) (win0_8.stage (cfg0.slots t 8)) :=
  Writes.inl (window_writes c t 8)

instance (t : Fin cfg0.N) : Writes (sp := .vmem) (s := S1x1024) (e := .f32) c (Mem (F := F) c t) (win0_9.stage (cfg0.slots t 9)) :=
  Writes.inl (window_writes c t 9)

instance (t : Fin cfg0.N) : Writes (sp := .vmem) (s := S1x1024) (e := .f32) c (Mem (F := F) c t) (win0_10.stage (cfg0.slots t 10)) :=
  Writes.inl (window_writes c t 10)

instance (t : Fin cfg0.N) : Writes (sp := .vmem) (s := S512x1024) (e := .bf16) c (Mem (F := F) c t) (win0_11.stage (cfg0.slots t 11)) :=
  Writes.inl (window_writes c t 11)

instance (t : Fin cfg0.N) : Writes (sp := .vmem) (s := S1024x1024) (e := .bf16) c (Mem (F := F) c t) (win0_12.stage (cfg0.slots t 12)) :=
  Writes.inl (window_writes c t 12)

instance (t : Fin cfg0.N) : Writes (sp := .vmem) (s := S1024x1024) (e := .bf16) c (Mem (F := F) c t) (win0_13.stage (cfg0.slots t 13)) :=
  Writes.inl (window_writes c t 13)

instance (t : Fin cfg0.N) : Writes (sp := .vmem) (s := S1x1024) (e := .f32) c (Mem (F := F) c t) (win0_14.stage (cfg0.slots t 14)) :=
  Writes.inl (window_writes c t 14)

instance (t : Fin cfg0.N) : Writes (sp := .vmem) (s := S32x1024) (e := .bf16) c (Mem (F := F) c t) (win0_15.stage (cfg0.slots t 15)) :=
  Writes.inl (window_writes c t 15)

instance (t : Fin cfg0.N) : Writes (sp := .vmem) (s := S32x512) (e := .f32) c (Mem (F := F) c t) (win0_16.stage (cfg0.slots t 16)) :=
  Writes.inl (window_writes c t 16)

instance (t : Fin cfg0.N) : Writes (sp := .vmem) (s := S8x1024x256) (e := .bf16) c (Mem (F := F) c t) (win0_17.stage (cfg0.slots t 17)) :=
  Writes.inl (window_writes c t 17)

instance (t : Fin cfg0.N) : Writes (sp := .vmem) (s := S512x1024) (e := .f32) c (Mem (F := F) c t) (win0_18.stage (cfg0.slots t 18)) :=
  Writes.inl (window_writes c t 18)

instance (t : Fin cfg0.N) : Writes (sp := .vmem) (s := S512x1152) (e := .f32) c (Mem (F := F) c t) (win0_19.stage (cfg0.slots t 19)) :=
  Writes.inl (window_writes c t 19)

instance (t : Fin cfg0.N) : Writes (sp := .vmem) (s := S32x512) (e := .f32) c (Mem (F := F) c t) (win0_20.stage (cfg0.slots t 20)) :=
  Writes.inl (window_writes c t 20)

instance (t : Fin cfg0.N) : Writes (sp := .vmem) (s := S8x512) (e := .f32) c (Mem (F := F) c t) (win0_21.stage (cfg0.slots t 21)) :=
  Writes.inl (window_writes c t 21)

instance (t : Fin cfg0.N) : Writes (sp := .vmem) (s := S640x512) (e := .f32) c (Mem (F := F) c t) (Memref.whole cc0_scratch2) :=
  Writes.inr (Writes.inl (own_writes c cc0_scratch2))

instance (t : Fin cfg0.N) : Writes (sp := .vmem) (s := S536x1024) (e := .f32) c (Mem (F := F) c t) (Memref.whole cc0_scratch3) :=
  Writes.inr (Writes.inr (Writes.inl (own_writes c cc0_scratch3)))

instance (t : Fin cfg0.N) : Writes (sp := .vmem) (s := S512x1024) (e := .f32) c (Mem (F := F) c t) (Memref.whole cc0_scratch4) :=
  Writes.inr (Writes.inr (Writes.inr (Writes.inl (own_writes c cc0_scratch4))))

instance (t : Fin cfg0.N) : Writes (sp := .vmem) (s := S512x1024) (e := .f32) c (Mem (F := F) c t) (Memref.whole cc0_scratch5) :=
  Writes.inr (Writes.inr (Writes.inr (Writes.inr (Writes.inl (own_writes c cc0_scratch5)))))

instance (t : Fin cfg0.N) : Writes (sp := .vmem) (s := S512x1024) (e := .f32) c (Mem (F := F) c t) (Memref.whole cc0_scratch6) :=
  Writes.inr (Writes.inr (Writes.inr (Writes.inr (Writes.inr (Writes.inl (own_writes c cc0_scratch6))))))

instance (t : Fin cfg0.N) : Writes (sp := .vmem) (s := S512x1024) (e := .bf16) c (Mem (F := F) c t) (Memref.whole cc0_scratch7) :=
  Writes.inr (Writes.inr (Writes.inr (Writes.inr (Writes.inr (Writes.inr (Writes.inl (own_writes c cc0_scratch7)))))))

instance (t : Fin cfg0.N) : Writes (sp := .vmem) (s := S8x512x256) (e := .f32) c (Mem (F := F) c t) (Memref.whole cc0_scratch8) :=
  Writes.inr (Writes.inr (Writes.inr (Writes.inr (Writes.inr (Writes.inr (Writes.inr (Writes.inl (own_writes c cc0_scratch8))))))))

instance (t : Fin cfg0.N) : Writes (sp := .vmem) (s := S8x1024) (e := .f32) c (Mem (F := F) c t) (Memref.whole cc0_scratch9) :=
  Writes.inr (Writes.inr (Writes.inr (Writes.inr (Writes.inr (Writes.inr (Writes.inr (Writes.inr (Writes.inl (own_writes c cc0_scratch9)))))))))

instance (t : Fin cfg0.N) : Writes (sp := .vmem) (s := S32x512) (e := .f32) c (Mem (F := F) c t) (Memref.whole cc0_scratch10) :=
  Writes.inr (Writes.inr (Writes.inr (Writes.inr (Writes.inr (Writes.inr (Writes.inr (Writes.inr (Writes.inr (own_writes c cc0_scratch10)))))))))

set_option maxHeartbeats 4000000 in
theorem step (t : Fin cfg0.N) : Does c iprop(Mem c t ∗ (Pre c V t ∗ Free c V (ot t)) ∗ Owes c) (bodyAt0 t)
    iprop(Mem c t ∗ (Free c V (sl t) ∗ Post c V t) ∗ Owes c) := by
  unfold bodyAt0
  apply whole

end Cert.MixerIdeal.Body

end
-- ==== Proof.MixerIdeal.Run.lean ====
module

public import proofs.«01_k».proof.Proof.MixerIdeal.Point
public import proofs.«01_k».proof.Proof.Gen.MixerIdeal.Frame

@[expose] public section

set_option maxRecDepth 16384
set_option Elab.async false

/-!
# The run
-/

noncomputable section

namespace Cert.MixerIdeal.Body

open Cert.MixerIdeal Cert.MixerIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

section
variable (c : Dev nD) (V : Buf (Elt F) ((XA.view.loc (c : Thread nD τ)) : Loc nD τ sig))

theorem toks (f : Fin 2 → sProp (MT nD τ sig Unit (Elt F) ℕ (Pipeline.UD sig nD τ) ℕ)) :
    bigSep Finset.univ f = iprop(f 0 ∗ f 1) := by
  rw [show (Finset.univ : Finset (Fin 2)) = insert 0 {1} from by decide, bigSep_insert (by decide), bigSep_singleton]
  rfl

/-- What the launch gives the kernel, the array the copies read at `V`. -/
def Held : sProp (MT nD τ sig Unit (Elt F) ℕ (Pipeline.UD sig nD τ) ℕ) :=
  iprop((Own c cc0_scratch0 ∗ Scratch c) ∗ (∃ r, prngReg c r)
    ∗ (semVal ((c : Thread nD τ), .dma (cell 0)) 0 ∗ semVal ((c : Thread nD τ), .dma (cell 1)) 0)
    ∗ (XA.view.loc (c : Thread nD τ) ↦{fullShare} V))

theorem shares : (XA.view.loc (c : Thread nD τ) ↦{fullShare} V : sProp 𝕄)
    ⊢ iprop((XA.view.loc (c : Thread nD τ) ↦{shareDrop fullShare 2} V) ∗ (XA.view.loc (c : Thread nD τ) ↦{lent 0} V)
      ∗ (XA.view.loc (c : Thread nD τ) ↦{lent 1} V)) := by
  have h := pointsTo_toks_split (ℓ := XA.view.loc (c : Thread nD τ)) (S := Finset.univ) (f := V) (Ix := Unit) (Name := ℕ) (U := Pipeline.UD sig nD τ) (Lvl := ℕ) fullShare 2
  rw [toks] at h
  exact h

theorem unshare : (iprop((XA.view.loc (c : Thread nD τ) ↦{shareDrop fullShare 2} V) ∗ (XA.view.loc (c : Thread nD τ) ↦{lent 0} V)
      ∗ (XA.view.loc (c : Thread nD τ) ↦{lent 1} V)) : sProp 𝕄) ⊢ (XA.view.loc (c : Thread nD τ) ↦{fullShare} V : sProp 𝕄) := by
  have h := pointsTo_toks_join (ℓ := XA.view.loc (c : Thread nD τ)) (S := Finset.univ) (f := V) (Ix := Unit) (Name := ℕ) (U := Pipeline.UD sig nD τ) (Lvl := ℕ) fullShare 2
  rw [toks] at h
  exact h

theorem slot_0 : slotAt 0 = 0 := rfl
theorem slot_1 : slotAt (0 + 1) = 1 := rfl
theorem slot_128 : slotAt 128 = 0 := rfl
theorem slot_129 : slotAt (128 + 1) = 1 := rfl

theorem enters : Held c V ⊢ Between c V 0 := by
  unfold Held Between Still Now
  rw [if_pos (Or.inl rfl), slot_0, slot_1]
  unfold Free
  iintro ⟨⟨⟨%f, Hf⟩, Hs⟩, Hg, ⟨Hs0, Hs1⟩, HV⟩
  ihave Hf := slots_split c f $$ Hf
  icases Hf with ⟨Hf0, Hf1⟩
  ihave HV := shares c V $$ HV
  icases HV with ⟨HVr, HV0, HV1⟩
  isplitl [Hs]; · iexact Hs
  isplitl [Hg HVr]
  · isplitl [Hg]; · iexact Hg
    iexact HVr
  isplitl [Hs0 Hf0 HV0]
  · isplitl [Hs0]; · iexact Hs0
    isplitl [Hf0]
    · iexists f; iexact Hf0
    · iexact HV0
  · isplitl [Hs1]; · iexact Hs1
    isplitl [Hf1]
    · iexists f; iexact Hf1
    · iexact HV1

theorem leaves : Between c V 128 ⊢ Held c V := by
  unfold Held Between Still Now
  rw [if_pos (Or.inr rfl), slot_128, slot_129]
  unfold Free
  iintro ⟨Hs, ⟨Hg, HVr⟩, ⟨Hs0, ⟨%f, Hf0⟩, HV0⟩, ⟨Hs1, ⟨%g, Hf1⟩, HV1⟩⟩
  isplitl [Hs Hf0 Hf1]
  · isplitl [Hf0 Hf1]
    · iapply slots_join c f g
      isplitl [Hf0]; · iexact Hf0
      iexact Hf1
    · iexact Hs
  isplitl [Hg]; · iexact Hg
  isplitl [Hs0 Hs1]
  · isplitl [Hs0]; · iexact Hs0
    iexact Hs1
  · iapply unshare c V
    isplitl [HVr]; · iexact HVr
    isplitl [HV0]; · iexact HV0
    iexact HV1

end

variable (m : (ℓ : Loc nD τ sig) → Buf (Elt F) ℓ) (ρ : Dev nD → PrngReg)

theorem held (c : Dev nD) : Pipeline.ΦD own spec0 {main_arg0} (Gen.V m) c = Held c (Gen.V m c main_arg0) := by
  rw [Pipeline.ΦD_eq, scopedRest0_eq]
  unfold Pipeline.ownSems0
  rw [toks, bigSep_singleton]
  rfl

/-- What is known of the windows over the steps: nothing of their contents. -/
def dats (p : Fin 1) (c : Dev nD) : Pipeline.Dat τ (Elt F) Unit ℕ (Pipeline.UD sig nD τ) ℕ (cfgs p) c :=
  match p with
  | ⟨0, _⟩ =>
    { A := fun w => Gen.V m c (Pipeline.arrRef spec0 w)
      after := fun _ _ _ => Classical.arbitrary _
      Φ := fun t => Between c (Gen.V m c main_arg0) t.val
      q := fun _ => fullShare
      owed := fun _ => 0 }
  | ⟨_ + 1, h⟩ => absurd h (Nat.not_lt.2 (Nat.le_add_left _ _))

theorem owes_out (c : Dev nD) (t) : (dats m 0 c).owesAt () t ⊢ Owes (F := F) c := by
  unfold Owes
  iintro ⟨%W, -, H⟩
  iexists W
  iexact H

theorem owes_in (c : Dev nD) (t) : Owes (F := F) c ⊢ (dats m 0 c).owesAt () t := by
  unfold Owes
  iintro ⟨%W, H⟩
  iexists W
  isplitr
  · ipureintro; exact fun _ _ => Or.inl trivial
  · iexact H

theorem body (c : Dev nD) : Pipeline.BodyObligationLoose (dats m 0 c) defs₀ Variants.none () Set.univ (fun _ => true) := by
  intro t
  show (iprop(Between c (Gen.V m c main_arg0) t.val ∗ (dats m 0 c).owesAt () t.castSucc ∗ Windows c t) : sProp 𝕄)
    ⊢ wp frame (wpE (defs₀ (F := F)) Variants.none (c : Thread nD τ) none) Set.univ (bodyAt0 t)
      (fun _ => iprop(Between c (Gen.V m c main_arg0) (t.val + 1) ∗ (dats m 0 c).owesAt () t.succ ∗ Windows c t))
  have h := Does.frame (R := Still c (Gen.V m c main_arg0)) (step c (Gen.V m c main_arg0) t)
  refine Does.conseq h ?_ ?_
  · unfold Between Mem
    rw [now_pre]
    iintro ⟨⟨Hs, Hst, Hn, Hf⟩, Ho, Hw⟩
    ihave Ho := owes_out m c _ $$ Ho
    isplitr [Hst]
    · isplitl [Hw Hs]
      · isplitl [Hw]; · iexact Hw
        iexact Hs
      isplitr [Ho]
      · isplitl [Hn]; · iexact Hn
        iexact Hf
      · iexact Ho
    · iexact Hst
  · unfold Between Mem
    rw [now_post, slot_next]
    iintro ⟨⟨⟨Hw, Hs⟩, ⟨Hf, Hn⟩, Ho⟩, Hst⟩
    isplitr [Hw Ho]
    · isplitl [Hs]; · iexact Hs
      isplitl [Hst]; · iexact Hst
      isplitl [Hn]; · iexact Hn
      iexact Hf
    isplitl [Ho]
    · iapply owes_in m c; iexact Ho
    · iexact Hw

set_option backward.isDefEq.respectTransparency.types false in
set_option maxHeartbeats 40000000 in
/-- The program runs to its end over any floats, its semaphores at zero and every array but the call's output as the host left it. -/
theorem run_post : θ_run defs (onTc (τ := τ) (main (F := F))) (s₀ m ρ)
    (fun r => Pipeline.RDat.FramePost (cfgs 0) (fun c => (dats m 0 c).toRForget (fun _ => true)) (Gen.V m) r ∧ r.2.sem = fun _ => 0) :=
  Pipeline.θ_run_frame_dma_forget (Q' := _) cfgs (dats m) (0 : Fin 1) launch0 own defs₀ Variants.none (fun _ => true) own_facts {main_arg0}
    (by decide) m ρ main (hbody := body m) (hshare := fun c => (dats m 0 c).share_full fun _ => rfl) (howed := fun _ _ => rfl) (V := Gen.V m)
    (hmain := Pipeline.hmain_prefix cfgs 0 defs₀ Variants.none m main hostOps0 hostOps0_sub hostOps0_fresh main_chain)
    (hA := fun _ _ => rfl) (hin := fun c => (held m c ▸ enters c (Gen.V m c main_arg0) :))
    (hout := fun c => (held m c ▸ leaves c (Gen.V m c main_arg0) :))

set_option maxHeartbeats 4000000 in
/-- The program runs to its end over any floats, its arguments unchanged and its semaphores at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c)⟩, h.2⟩) (run_post m ρ)

end Cert.MixerIdeal.Body

end
-- ==== Proof.lean ====
module

public import proofs.«01_k».proof.Defs
public import proofs.«01_k».proof.Proof.Gen.Experts
public import proofs.«01_k».proof.Proof.Gen.ExpertsIdeal
public import proofs.«01_k».proof.Proof.Gen.DenseIdeal
public import proofs.«01_k».proof.Proof.Gen.Mixer
public import proofs.«01_k».proof.Proof.Gen.MixerIdeal
public import proofs.«01_k».proof.Proof.Gen.Pre_counts_of_tokens
public import proofs.«01_k».proof.Proof.Gen.Pre_routed
public import proofs.«01_k».proof.Proof.Gen.DenseIdeal.Run
public import proofs.«01_k».proof.Proof.Agree
public import proofs.«01_k».proof.Proof.Bits.Run
public import proofs.«01_k».proof.Proof.Mixer.Run
public import proofs.«01_k».proof.Proof.MixerIdeal.Run
public import Idealize.ShloMosaic.Adequacy
public import Idealize.ShloMosaic.Init

@[expose] public section

noncomputable section

namespace Cert.Proof

open Idealize.ShloMosaic Idealize.SL.Sem
open Cert.ExpertsIdeal.Body

theorem frame_kernel : Cert.quiescent_Experts := fun m ρ hp =>
  (θ_run Cert.Experts.defs _ _).mono (fun _ h => ⟨fun c => (h.1 c).2, h.2⟩)
    (Cert.Experts.Body.run_main (F := Bits) m ρ (Cert.Experts.Body.sizes_of_counts _ _ _ _ _ (hp 0)))

theorem frame_ideal : Cert.quiescent_ExpertsIdeal := fun m ρ hp =>
  (θ_run Cert.ExpertsIdeal.defs _ _).mono (fun _ h => ⟨fun c => (h.1 c).2, h.2⟩)
    (run_main m ρ (sizes_of_counts _ _ _ _ _ (hp 0)))

theorem frame_routed : Cert.quiescent_ExpertsIdeal_pre_routed := fun m ρ hp =>
  (θ_run Cert.ExpertsIdeal.defs _ _).mono (fun _ h => ⟨fun c => (h.1 c).2, h.2⟩)
    (run_main m ρ (sizes_of_routed _ _ _ _ _ (hp 0)))

theorem frame_reference : Cert.quiescent_DenseIdeal := fun m ρ _ =>
  (θ_run Cert.DenseIdeal.defs _ _).mono (fun r h => ⟨fun c => (h c).2, sem_eq_zero_of_no_sems (by decide) r.2⟩)
    (Cert.DenseIdeal.Value.run m ρ)

theorem frame_reference_routed : Cert.quiescent_DenseIdeal_pre_routed := fun m ρ _ =>
  (θ_run Cert.DenseIdeal.defs _ _).mono (fun r h => ⟨fun c => (h c).2, sem_eq_zero_of_no_sems (by decide) r.2⟩)
    (Cert.DenseIdeal.Value.run m ρ)

theorem frame_mixer : Cert.quiescent_Mixer := fun m ρ _ => Cert.Mixer.Body.run_main (F := Bits) m ρ

theorem frame_mixer_ideal : Cert.quiescent_MixerIdeal := fun m ρ _ => Cert.MixerIdeal.Body.run_main m ρ

/-- The kernel's rows are the reference's. -/
theorem rows_agree : Cert.algebraic_ExpertsIdeal_DenseIdeal_pre_routed := fun m g m' g' hp hm => by
  have h : Sizes (sizes (counts m 0)) := sizes_of_routed _ _ _ _ _ (hp 0)
  refine ⟨fun c => outG (sizes (counts m 0)) (argX m c) (argA m c) (argB m c) (argD m c),
    run_out m g h fun c => weights_of _ _ _ _ _ (hp c), ?_⟩
  refine (θ_run Cert.DenseIdeal.defs _ _).mono (fun r hr c => ⟨(hr c).1.trans ?_, (hr c).2⟩) (Cert.DenseIdeal.Value.run m' g')
  obtain ⟨h0, h1, h2, h3, h4⟩ := hm c
  rw [Cert.DenseIdeal.Row.res_eq, h0, h1, h2, h3, h4]
  obtain rfl : c = 0 := Subsingleton.elim _ _
  exact dense_eq (counts m 0) h _ _ _ _

theorem claim : Cert.Claim := ⟨Cert.Experts.Gen.facts, Cert.ExpertsIdeal.Gen.facts, Cert.DenseIdeal.Gen.facts, Cert.Mixer.Gen.facts, Cert.MixerIdeal.Gen.facts, Cert.Pre_counts_of_tokens.Gen.facts, Cert.Pre_routed.Gen.facts,
  frame_kernel, frame_ideal, frame_routed, frame_reference, frame_reference_routed, frame_mixer, frame_mixer_ideal,
  trivial, rows_agree, trivial⟩

end Cert.Proof

end
